-- ==== Defs.lean ====
def Pre_Kernel [hPre_in_table_Kernel : Cert.Pre_in_table_Kernel.Facts] (m : (ℓ : Loc Cert.Kernel.nD Cert.Kernel.τ Cert.Kernel.sig) → Buf (Elt Bits) ℓ) : Prop :=
  ∀ c : Dev Cert.Kernel.nD,
    (Cert.Pre_in_table_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table_Kernel : Cert.Pre_in_table_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_table_Kernel : Cert.Pre_in_table_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table_Kernel : Cert.Pre_in_table_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table_Kernel : Cert.Pre_in_table_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_Kernel : Cert.Pre_in_table_Kernel.Facts) (hPre_in_table_ReferenceIdeal : Cert.Pre_in_table_ReferenceIdeal.Facts),
    quiescent_Kernel (hKernel := hKernel) (hPre_in_table_Kernel := hPre_in_table_Kernel)
    ∧ quiescent_KernelIdeal (hKernelIdeal := hKernelIdeal) (hPre_in_table_Kernel := hPre_in_table_Kernel)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal (hKernelIdeal := hKernelIdeal) (hReferenceIdeal := hReferenceIdeal) (hPre_in_table_Kernel := hPre_in_table_Kernel)
-- ==== Pre_in_table_Kernel.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S8192x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Pre_in_table_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S16384x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Kernel.lean ====
abbrev S1024 : Shape := ⟨1, ![1024]⟩
abbrev S8192x1024 : Shape := ⟨2, ![8192, 1024]⟩
abbrev S1024x1024 : Shape := ⟨2, ![1024, 1024]⟩
abbrev S_ : Shape := ⟨0, ![]⟩
abbrev S1 : Shape := ⟨1, ![1]⟩
abbrev S1x1024 : Shape := ⟨2, ![1, 1024]⟩

abbrev nBuf : Space → Nat
  | .hbm => 6
  | .vmem => 1
  | .smem => 3
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S1024x1024, .f32⟩
  | .local _ .vmem, ⟨0, _⟩ => ⟨S1024x1024, .f32⟩
  | .local _ .smem, ⟨0, _⟩ => ⟨S1024, .i32⟩
  | .local _ .smem, ⟨1, _⟩ => ⟨S1024, .i32⟩
  | .local _ .smem, ⟨2, _⟩ => ⟨S1024, .i32⟩
  | _, _ => ⟨S1024, .i32⟩

abbrev bufScoped : (cs : CoreSpace) → Fin (nBuf (.core cs)) → Bool
  | .vmem, ⟨0, _⟩ => true
  | .smem, ⟨0, _⟩ => true
  | .smem, ⟨1, _⟩ => true
  | .smem, ⟨2, _⟩ => true
  | _, _ => false

abbrev semScoped : Fin 2 → Bool
  | ⟨0, _⟩ => false
  | ⟨1, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v1_s0 : Ref sig .tc := ⟨.hbm, 3, rfl⟩
abbrev main_v1_s1 : Ref sig .tc := ⟨.hbm, 4, rfl⟩
abbrev main_v2 : Ref sig .tc := ⟨.hbm, 5, rfl⟩
abbrev cc0_stg1_0 : Ref sig .tc := ⟨.vmem, 0, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev ar0_recv : DmaSem sig := 0
abbrev ar0_send : DmaSem sig := 1
abbrev cc0_sem0_0 : DmaSem sig := 2
abbrev cc0_sem1_0 : DmaSem sig := 3
abbrev ar0_barrier : Sem sig := 0
abbrev barrier0 : Sem sig := 1

abbrev nD : Nat := 16
abbrev τ : Topo := Topo.v7x

variable {F : FTy → Type} [FloatOps F]

abbrev ar0_mem : Fin 8 × Fin 2 → Dev nD := fun q => (![![0, 8], ![1, 9], ![2, 10], ![3, 11], ![4, 12], ![5, 13], ![6, 14], ![7, 15]] : Fin 8 → Fin 2 → Dev nD) q.1 q.2
abbrev ar0_pos : Dev nD → Fin 8 × Fin 2 := fun c => ((![0, 1, 2, 3, 4, 5, 6, 7, 0, 1, 2, 3, 4, 5, 6, 7] : Fin 16 → Fin 8) c, (![0, 0, 0, 0, 0, 0, 0, 0, 1, 1, 1, 1, 1, 1, 1, 1] : Fin 16 → Fin 2) c)
abbrev ar0_stage : Fin 2 → Ref sig .tc := fun | 0 => main_v1_s0 | 1 => main_v1_s1 | ⟨_ + 2, h⟩ => absurd h (Nat.not_lt.2 (Nat.le_add_left _ _))

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v12 : BitVec 32 := Scalar.muli v9 c8_i32_4
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v14 : BitVec 32 := Scalar.muli v5 c4_i32_5
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.muli v8 c1_i32_6
  let v17 : BitVec 32 := Scalar.addi v15 v16
  v17.toNat
@[reducible] def k0_t1_loop : Scf.Loop 32 :=
  let c0_i32_9 : BitVec 32 := 0#32
  let c8_i32_10 : BitVec 32 := 8#32
  let v18 : BitVec 32 := Scalar.addi c0_i32_9 c8_i32_10
  let c1_i32_11 : BitVec 32 := 1#32
  ⟨c0_i32_9, v18, c1_i32_11⟩
@[reducible] def k0_t2_loop (k0_t1 : Fin k0_t1_loop.trips) : Scf.Loop 32 :=
  let c0_i32_9 : BitVec 32 := 0#32
  let c1_i32_11 : BitVec 32 := 1#32
  let arg8 : BitVec 32 := Scf.iv c0_i32_9 c1_i32_11 k0_t1
  let c128_i32 : BitVec 32 := 128#32
  let v31 : BitVec 32 := Scalar.muli arg8 c128_i32
  let c1_i32_23 : BitVec 32 := 1#32
  let v32 : BitVec 32 := Scalar.addi arg8 c1_i32_23
  let c128_i32_24 : BitVec 32 := 128#32
  let v33 : BitVec 32 := Scalar.muli v32 c128_i32_24
  let v34 : BitVec 32 := Scalar.subi v33 v31
  let c1_i32_25 : BitVec 32 := 1#32
  let v36 : BitVec 32 := Scalar.divsi v34 c1_i32_25
  let v37 : BitVec 32 := Scalar.muli v36 c1_i32_25
  let v38 : BitVec 32 := Scalar.addi v31 v37
  let c1_i32_26 : BitVec 32 := 1#32
  ⟨v31, v38, c1_i32_26⟩
def k0_off1 (k0_t1 : Fin k0_t1_loop.trips) (k0_t2 : Fin (k0_t2_loop k0_t1).trips) : Fin 1 → Nat :=
  let c0_i32_9 : BitVec 32 := 0#32
  let c1_i32_11 : BitVec 32 := 1#32
  let arg8 : BitVec 32 := Scf.iv c0_i32_9 c1_i32_11 k0_t1
  let c128_i32 : BitVec 32 := 128#32
  let v31 : BitVec 32 := Scalar.muli arg8 c128_i32
  let c1_i32_26 : BitVec 32 := 1#32
  let arg10 : BitVec 32 := Scf.iv v31 c1_i32_26 k0_t2
  let v46 : Index := Scalar.indexCast arg10
  ![v46.toNat]
def k0_off2 (arg11 : BitVec 32) : Fin 1 → Nat :=
  let v52 : Index := Scalar.indexCast arg11
  ![v52.toNat]

def k0_chk1 (arg11 : BitVec 32) : Prop :=
  (∀ a, (k0_off2 arg11) a + S1.size a ≤ S1024.size a)
theorem k0_off2_inb : ∀ (arg11 : BitVec 32) (k0_hw1 : k0_chk1 arg11), ∀ a, (k0_off2 arg11) a + S1.size a ≤ S1024.size a := fun arg11 k0_hw1 => k0_hw1

@[reducible] def k0_t3_loop (k0_t1 : Fin k0_t1_loop.trips) : Scf.Loop 32 :=
  let c0_i32_9 : BitVec 32 := 0#32
  let c1_i32_11 : BitVec 32 := 1#32
  let arg8 : BitVec 32 := Scf.iv c0_i32_9 c1_i32_11 k0_t1
  let c128_i32 : BitVec 32 := 128#32
  let v31 : BitVec 32 := Scalar.muli arg8 c128_i32
  let c1_i32_23 : BitVec 32 := 1#32
  let v32 : BitVec 32 := Scalar.addi arg8 c1_i32_23
  let c128_i32_24 : BitVec 32 := 128#32
  let v33 : BitVec 32 := Scalar.muli v32 c128_i32_24
  let v34 : BitVec 32 := Scalar.subi v33 v31
  let c1_i32_25 : BitVec 32 := 1#32
  let v36 : BitVec 32 := Scalar.divsi v34 c1_i32_25
  let v37 : BitVec 32 := Scalar.muli v36 c1_i32_25
  let v38 : BitVec 32 := Scalar.addi v31 v37
  let v35 : BitVec 32 := Scalar.addi v31 v34
  let c1_i32_27 : BitVec 32 := 1#32
  ⟨v38, v35, c1_i32_27⟩
def k0_off3 (k0_t1 : Fin k0_t1_loop.trips) (k0_t3 : Fin (k0_t3_loop k0_t1).trips) : Fin 1 → Nat :=
  let c0_i32_9 : BitVec 32 := 0#32
  let c1_i32_11 : BitVec 32 := 1#32
  let arg8 : BitVec 32 := Scf.iv c0_i32_9 c1_i32_11 k0_t1
  let c128_i32 : BitVec 32 := 128#32
  let v31 : BitVec 32 := Scalar.muli arg8 c128_i32
  let c1_i32_23 : BitVec 32 := 1#32
  let v32 : BitVec 32 := Scalar.addi arg8 c1_i32_23
  let c128_i32_24 : BitVec 32 := 128#32
  let v33 : BitVec 32 := Scalar.muli v32 c128_i32_24
  let v34 : BitVec 32 := Scalar.subi v33 v31
  let c1_i32_25 : BitVec 32 := 1#32
  let v36 : BitVec 32 := Scalar.divsi v34 c1_i32_25
  let v37 : BitVec 32 := Scalar.muli v36 c1_i32_25
  let v38 : BitVec 32 := Scalar.addi v31 v37
  let c1_i32_27 : BitVec 32 := 1#32
  let arg10 : BitVec 32 := Scf.iv v38 c1_i32_27 k0_t3
  let v46 : Index := Scalar.indexCast arg10
  ![v46.toNat]
def k0_off4 (arg11 : BitVec 32) : Fin 1 → Nat :=
  let v52 : Index := Scalar.indexCast arg11
  ![v52.toNat]

def k0_chk2 (k0_t1 : Fin k0_t1_loop.trips) (k0_t3 : Fin (k0_t3_loop k0_t1).trips) (arg11 : BitVec 32) : Prop :=
  (∀ a, (k0_off4 arg11) a + S1.size a ≤ S1024.size a)
theorem k0_off4_inb : ∀ (k0_t1 : Fin k0_t1_loop.trips) (k0_t3 : Fin (k0_t3_loop k0_t1).trips) (arg11 : BitVec 32) (k0_hw2 : k0_chk2 k0_t1 k0_t3 arg11), ∀ a, (k0_off4 arg11) a + S1.size a ≤ S1024.size a := fun k0_t1 k0_t3 arg11 k0_hw2 => k0_hw2

@[reducible] def k0_t4_loop (arg9 : BitVec 32) (v40 : BitVec 32) : Scf.Loop 32 :=
  let v41 : BitVec 32 := Scalar.subi v40 arg9
  let c1_i32_29 : BitVec 32 := 1#32
  let v43 : BitVec 32 := Scalar.divsi v41 c1_i32_29
  let v44 : BitVec 32 := Scalar.muli v43 c1_i32_29
  let v45 : BitVec 32 := Scalar.addi arg9 v44
  let c1_i32_30 : BitVec 32 := 1#32
  ⟨arg9, v45, c1_i32_30⟩

def k0_off5 (arg9 : BitVec 32) (v40 : BitVec 32) (k0_t4 : Fin (k0_t4_loop arg9 v40).trips) : Fin 1 → Nat :=
  let c1_i32_30 : BitVec 32 := 1#32
  let arg10 : BitVec 32 := Scf.iv arg9 c1_i32_30 k0_t4
  let v46 : Index := Scalar.indexCast arg10
  ![v46.toNat]
def k0_off6 (v47 : BitVec 32) : Fin 2 → Nat :=
  let c0_i32_36 : BitVec 32 := 0#32
  ![v47.toNat, 0]

def k0_off7 (v49 : BitVec 32) : Fin 2 → Nat :=
  let c0_i32_37 : BitVec 32 := 0#32
  ![v49.toNat, 0]

def k0_chk5 (v49 : BitVec 32) : Prop :=
  (∀ a, (k0_off7 v49) a + S1x1024.size a ≤ S8192x1024.size a)
theorem k0_off7_inb : ∀ (v49 : BitVec 32) (k0_hw5 : k0_chk5 v49), ∀ a, (k0_off7 v49) a + S1x1024.size a ≤ S8192x1024.size a := fun v49 k0_hw5 => k0_hw5

def k0_dev2 (d0 : Dev nD) : Nat :=
  let c0_i32_33 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_32 : BitVec 32 := 8#32
  let v50 : BitVec 32 := Scalar.muli v9 c8_i32_32
  let v51 : BitVec 32 := Scalar.addi c0_i32_33 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v52 : BitVec 32 := Scalar.muli v5 c4_i32_34
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v54 : BitVec 32 := Scalar.muli v8 c1_i32_35
  let v55 : BitVec 32 := Scalar.addi v53 v54
  v55.toNat
def k0_off8 (v47 : BitVec 32) : Fin 2 → Nat :=
  let c0_i32_38 : BitVec 32 := 0#32
  ![v47.toNat, 0]

def k0_chk4 (v47 : BitVec 32) : Prop :=
  (∀ a, (k0_off6 v47) a + S1x1024.size a ≤ S1024x1024.size a) ∧
  (∀ a, (k0_off8 v47) a + S1x1024.size a ≤ S1024x1024.size a)
theorem k0_off6_inb : ∀ (v47 : BitVec 32) (k0_hw4 : k0_chk4 v47), ∀ a, (k0_off6 v47) a + S1x1024.size a ≤ S1024x1024.size a := fun v47 k0_hw4 => k0_hw4.1
theorem k0_off8_inb : ∀ (v47 : BitVec 32) (k0_hw4 : k0_chk4 v47), ∀ a, (k0_off8 v47) a + S1x1024.size a ≤ S1024x1024.size a := fun v47 k0_hw4 => k0_hw4.2

@[reducible] def k0_t5_loop (arg9 : BitVec 32) (v40 : BitVec 32) : Scf.Loop 32 :=
  let v41 : BitVec 32 := Scalar.subi v40 arg9
  let c1_i32_29 : BitVec 32 := 1#32
  let v43 : BitVec 32 := Scalar.divsi v41 c1_i32_29
  let v44 : BitVec 32 := Scalar.muli v43 c1_i32_29
  let v45 : BitVec 32 := Scalar.addi arg9 v44
  let v42 : BitVec 32 := Scalar.addi arg9 v41
  let c1_i32_31 : BitVec 32 := 1#32
  ⟨v45, v42, c1_i32_31⟩
def k0_off9 (arg9 : BitVec 32) (v40 : BitVec 32) (k0_t5 : Fin (k0_t5_loop arg9 v40).trips) : Fin 1 → Nat :=
  let v41 : BitVec 32 := Scalar.subi v40 arg9
  let c1_i32_29 : BitVec 32 := 1#32
  let v43 : BitVec 32 := Scalar.divsi v41 c1_i32_29
  let v44 : BitVec 32 := Scalar.muli v43 c1_i32_29
  let v45 : BitVec 32 := Scalar.addi arg9 v44
  let c1_i32_31 : BitVec 32 := 1#32
  let arg10 : BitVec 32 := Scf.iv v45 c1_i32_31 k0_t5
  let v46 : Index := Scalar.indexCast arg10
  ![v46.toNat]

def k0_chk3 (arg9 : BitVec 32) (v40 : BitVec 32) : Prop :=
  ((k0_t4_loop arg9 v40).OK) ∧
  (∀ k0_t4 : Fin (k0_t4_loop arg9 v40).trips, ∀ a, (k0_off5 arg9 v40 k0_t4) a + S1.size a ≤ S1024.size a) ∧
  ((k0_t5_loop arg9 v40).OK) ∧
  (∀ k0_t5 : Fin (k0_t5_loop arg9 v40).trips, ∀ a, (k0_off9 arg9 v40 k0_t5) a + S1.size a ≤ S1024.size a)
theorem k0_t4_ok : ∀ (arg9 : BitVec 32) (v40 : BitVec 32) (k0_hw3 : k0_chk3 arg9 v40), (k0_t4_loop arg9 v40).OK := fun arg9 v40 k0_hw3 => k0_hw3.1
theorem k0_off5_inb : ∀ (arg9 : BitVec 32) (v40 : BitVec 32) (k0_hw3 : k0_chk3 arg9 v40) (k0_t4 : Fin (k0_t4_loop arg9 v40).trips), ∀ a, (k0_off5 arg9 v40 k0_t4) a + S1.size a ≤ S1024.size a := fun arg9 v40 k0_hw3 k0_t4 => k0_hw3.2.1 k0_t4
theorem k0_t5_ok : ∀ (arg9 : BitVec 32) (v40 : BitVec 32) (k0_hw3 : k0_chk3 arg9 v40), (k0_t5_loop arg9 v40).OK := fun arg9 v40 k0_hw3 => k0_hw3.2.2.1
theorem k0_off9_inb : ∀ (arg9 : BitVec 32) (v40 : BitVec 32) (k0_hw3 : k0_chk3 arg9 v40) (k0_t5 : Fin (k0_t5_loop arg9 v40).trips), ∀ a, (k0_off9 arg9 v40 k0_t5) a + S1.size a ≤ S1024.size a := fun arg9 v40 k0_hw3 k0_t5 => k0_hw3.2.2.2 k0_t5

def k0_off10 (v47 : BitVec 32) : Fin 2 → Nat :=
  let c0_i32_36 : BitVec 32 := 0#32
  ![v47.toNat, 0]

def k0_off11 (v49 : BitVec 32) : Fin 2 → Nat :=
  let c0_i32_37 : BitVec 32 := 0#32
  ![v49.toNat, 0]

def k0_chk7 (v49 : BitVec 32) : Prop :=
  (∀ a, (k0_off11 v49) a + S1x1024.size a ≤ S8192x1024.size a)
theorem k0_off11_inb : ∀ (v49 : BitVec 32) (k0_hw7 : k0_chk7 v49), ∀ a, (k0_off11 v49) a + S1x1024.size a ≤ S8192x1024.size a := fun v49 k0_hw7 => k0_hw7

def k0_dev3 (d0 : Dev nD) : Nat :=
  let c0_i32_33 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_32 : BitVec 32 := 8#32
  let v50 : BitVec 32 := Scalar.muli v9 c8_i32_32
  let v51 : BitVec 32 := Scalar.addi c0_i32_33 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v52 : BitVec 32 := Scalar.muli v5 c4_i32_34
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v54 : BitVec 32 := Scalar.muli v8 c1_i32_35
  let v55 : BitVec 32 := Scalar.addi v53 v54
  v55.toNat
def k0_off12 (v47 : BitVec 32) : Fin 2 → Nat :=
  let c0_i32_38 : BitVec 32 := 0#32
  ![v47.toNat, 0]

def k0_chk6 (v47 : BitVec 32) : Prop :=
  (∀ a, (k0_off10 v47) a + S1x1024.size a ≤ S1024x1024.size a) ∧
  (∀ a, (k0_off12 v47) a + S1x1024.size a ≤ S1024x1024.size a)
theorem k0_off10_inb : ∀ (v47 : BitVec 32) (k0_hw6 : k0_chk6 v47), ∀ a, (k0_off10 v47) a + S1x1024.size a ≤ S1024x1024.size a := fun v47 k0_hw6 => k0_hw6.1
theorem k0_off12_inb : ∀ (v47 : BitVec 32) (k0_hw6 : k0_chk6 v47), ∀ a, (k0_off12 v47) a + S1x1024.size a ≤ S1024x1024.size a := fun v47 k0_hw6 => k0_hw6.2

@[reducible] def k0_t6_loop (v19 : BitVec 32) : Scf.Loop 32 :=
  let c0_i32_14 : BitVec 32 := 0#32
  let v20 : BitVec 32 := Scalar.subi v19 c0_i32_14
  let c1_i32_15 : BitVec 32 := 1#32
  let v22 : BitVec 32 := Scalar.divsi v20 c1_i32_15
  let v23 : BitVec 32 := Scalar.muli v22 c1_i32_15
  let v24 : BitVec 32 := Scalar.addi c0_i32_14 v23
  let c1_i32_16 : BitVec 32 := 1#32
  ⟨c0_i32_14, v24, c1_i32_16⟩

@[reducible] def k0_t7_loop (v19 : BitVec 32) : Scf.Loop 32 :=
  let c0_i32_14 : BitVec 32 := 0#32
  let v20 : BitVec 32 := Scalar.subi v19 c0_i32_14
  let c1_i32_15 : BitVec 32 := 1#32
  let v22 : BitVec 32 := Scalar.divsi v20 c1_i32_15
  let v23 : BitVec 32 := Scalar.muli v22 c1_i32_15
  let v24 : BitVec 32 := Scalar.addi c0_i32_14 v23
  let v21 : BitVec 32 := Scalar.addi c0_i32_14 v20
  let c1_i32_17 : BitVec 32 := 1#32
  ⟨v24, v21, c1_i32_17⟩
@[reducible] def k0_t8_loop (v19 : BitVec 32) : Scf.Loop 32 :=
  let c0_i32_19 : BitVec 32 := 0#32
  let c1024_i32 : BitVec 32 := 1024#32
  let v25 : BitVec 32 := Scalar.subi c1024_i32 v19
  let v26 : BitVec 32 := Scalar.subi v25 c0_i32_19
  let c1_i32_20 : BitVec 32 := 1#32
  let v28 : BitVec 32 := Scalar.divsi v26 c1_i32_20
  let v29 : BitVec 32 := Scalar.muli v28 c1_i32_20
  let v30 : BitVec 32 := Scalar.addi c0_i32_19 v29
  let c1_i32_21 : BitVec 32 := 1#32
  ⟨c0_i32_19, v30, c1_i32_21⟩
@[reducible] def k0_t9_loop (v19 : BitVec 32) : Scf.Loop 32 :=
  let c0_i32_19 : BitVec 32 := 0#32
  let c1024_i32 : BitVec 32 := 1024#32
  let v25 : BitVec 32 := Scalar.subi c1024_i32 v19
  let v26 : BitVec 32 := Scalar.subi v25 c0_i32_19
  let c1_i32_20 : BitVec 32 := 1#32
  let v28 : BitVec 32 := Scalar.divsi v26 c1_i32_20
  let v29 : BitVec 32 := Scalar.muli v28 c1_i32_20
  let v30 : BitVec 32 := Scalar.addi c0_i32_19 v29
  let v27 : BitVec 32 := Scalar.addi c0_i32_19 v26
  let c1_i32_22 : BitVec 32 := 1#32
  ⟨v30, v27, c1_i32_22⟩

def k0_chk8 (v19 : BitVec 32) : Prop :=
  ((k0_t6_loop v19).OK) ∧
  ((k0_t7_loop v19).OK) ∧
  ((k0_t8_loop v19).OK) ∧
  ((k0_t9_loop v19).OK)
theorem k0_t6_ok : ∀ (v19 : BitVec 32) (k0_hw8 : k0_chk8 v19), (k0_t6_loop v19).OK := fun v19 k0_hw8 => k0_hw8.1
theorem k0_t7_ok : ∀ (v19 : BitVec 32) (k0_hw8 : k0_chk8 v19), (k0_t7_loop v19).OK := fun v19 k0_hw8 => k0_hw8.2.1
theorem k0_t8_ok : ∀ (v19 : BitVec 32) (k0_hw8 : k0_chk8 v19), (k0_t8_loop v19).OK := fun v19 k0_hw8 => k0_hw8.2.2.1
theorem k0_t9_ok : ∀ (v19 : BitVec 32) (k0_hw8 : k0_chk8 v19), (k0_t9_loop v19).OK := fun v19 k0_hw8 => k0_hw8.2.2.2

abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Words.lean ====
module

public import proofs.«01_k».proof.Proof.Gen.KernelIdeal.Skeleton
public import Idealize.ShloMosaic.Lib.LoopRemainder
public import Idealize.ShloMosaic.Lib.Affine

@[expose] public section

set_option maxRecDepth 16384

/-! # The words of the lookup

The partner of a device, which of the two devices owns a token, how many tokens below a position a device owns, and
what the kernel's loop bounds and offsets are as numbers. -/

namespace Cert.KernelIdeal.Lookup

open Idealize.ShloMosaic Idealize.SL.Sem

/-! ## The partner and the owner -/

/-- The device that holds the other half of the table: eight further along, around the mesh. -/
def peer (c : Dev nD) : Dev nD := ⟨(c.val + 8) % 16, Nat.mod_lt _ (by decide)⟩

theorem peer_peer (c : Dev nD) : peer (peer c) = c := by revert c; decide

theorem peer_ne (c : Dev nD) : peer c ≠ c := by revert c; decide

theorem peer_inj {a b : Dev nD} (h : peer a = peer b) : a = b := by rw [← peer_peer a, h, peer_peer]

/-- The half of the table a device holds, and that of its partner. -/
theorem half_peer (c : Dev nD) : (peer c).val / 8 = 1 - c.val / 8 := by revert c; decide

theorem half_le (c : Dev nD) : c.val / 8 ≤ 1 := by revert c; decide

/-- The first row of a device's half, as the kernel's word. -/
def base (c : Dev nD) : BitVec 32 := BitVec.ofNat 32 (8192 * (c.val / 8))

theorem base_toNat (c : Dev nD) : (base c).toNat = 8192 * (c.val / 8) := by revert c; decide

theorem base_eq (c : Dev nD) :
    Scalar.muli (Scalar.remsi (Scalar.divsi (Dev.word c) 8#32) 2#32) 8192#32 = base c := by
  revert c; decide

theorem dev1_eq (c : Dev nD) (h : k0_dev1 c < nD) : (⟨k0_dev1 c, h⟩ : Dev nD) = peer c := by
  apply Fin.ext; revert h; revert c; decide

theorem dev2_eq (c : Dev nD) (h : k0_dev2 c < nD) : (⟨k0_dev2 c, h⟩ : Dev nD) = peer c := by
  apply Fin.ext; revert h; revert c; decide

/-- Device `c` owns the id `w`: its row is in the device's half. -/
def Mine (c : Dev nD) (w : BitVec 32) : Prop := w.toNat / 8192 = c.val / 8

instance (c : Dev nD) (w : BitVec 32) : Decidable (Mine c w) := inferInstanceAs (Decidable (_ = _))

/-- Of an id inside the table exactly one of a device and its partner is the owner. -/
theorem mine_peer (c : Dev nD) {w : BitVec 32} (h : w.toNat < 16384) : Mine (peer c) w ↔ ¬ Mine c w := by
  have := half_peer c; have := half_le c
  unfold Mine
  omega

/-- The row of its half at which an owned id stands. -/
theorem sub_base_toNat (c : Dev nD) {w : BitVec 32} (hw : Mine c w) :
    (Scalar.subi w (base c)).toNat = w.toNat - 8192 * (c.val / 8) := by
  have hb := base_toNat c
  have := half_le c
  have h2 : w.toNat < 2 ^ 32 := w.isLt
  unfold Mine at hw
  simp only [Scalar.subi, IntOp.subi, BitVec.toNat_sub, hb]
  omega

theorem sub_base_lt (c : Dev nD) {w : BitVec 32} (hw : Mine c w) : (Scalar.subi w (base c)).toNat < 8192 := by
  rw [sub_base_toNat c hw]
  unfold Mine at hw
  omega

/-- The kernel's test of ownership, added to the position as a word, is one exactly at an owned id. -/
theorem test_eq (c : Dev nD) {w : BitVec 32} (h : w.toNat < 16384) :
    Scalar.extui (Scalar.andi (Scalar.cmpi .sge (Scalar.subi w (base c)) 0#32)
        (Scalar.cmpi .slt (Scalar.subi w (base c)) 8192#32)) = (if Mine c w then 1#32 else 0#32 : BitVec 32) := by
  have hb := base_toNat c
  have hc := half_le c
  have hsub : (Scalar.subi w (base c)).toInt = (w.toNat : Int) - 8192 * (c.val / 8 : Nat) := by
    have hw : Affine.IsInt w (w.toNat : Int) := by
      unfold Affine.IsInt; rw [BitVec.toInt_eq_toNat_cond]; split <;> omega
    have hbI : Affine.IsInt (base c) (8192 * (c.val / 8 : Nat) : Int) := by
      unfold Affine.IsInt; rw [BitVec.toInt_eq_toNat_cond, hb]; split <;> omega
    have := Affine.subi (e := (w.toNat : Int) - 8192 * (c.val / 8 : Nat)) hw hbI ⟨rfl, by omega, by omega⟩
    unfold Affine.IsInt at this; exact this
  generalize hd : Scalar.subi w (base c) = d at *
  have h1 : Scalar.cmpi .sge d 0#32 = if 0 ≤ d.toInt then 1#1 else 0#1 := by
    simp only [Scalar.cmpi, IntOp.cmpi, BitVec.sle, BitVec.slt, BitVec.ofBool]
    by_cases h : 0 ≤ d.toInt <;> simp [h]
  have h2 : Scalar.cmpi .slt d 8192#32 = if d.toInt < 8192 then 1#1 else 0#1 := by
    have : (8192#32 : BitVec 32).toInt = 8192 := by decide
    simp only [Scalar.cmpi, IntOp.cmpi, BitVec.sle, BitVec.slt, BitVec.ofBool, this]
    by_cases h : d.toInt < 8192 <;> simp [h]
  rw [h1, h2]
  by_cases hm : Mine c w
  · have ha : 0 ≤ d.toInt := by unfold Mine at hm; omega
    have hb : d.toInt < 8192 := by unfold Mine at hm; omega
    rw [if_pos ha, if_pos hb, if_pos hm]; decide
  · rw [if_neg hm]
    by_cases ha : 0 ≤ d.toInt
    · have hb : ¬ d.toInt < 8192 := by unfold Mine at hm; omega
      rw [if_pos ha, if_neg hb]; decide
    · rw [if_neg ha]; split <;> decide

/-! ## Counting the owned tokens -/

/-- How many of the tokens of `S` come before position `n`. -/
def cnt (S : Finset (Fin 1024)) (n : ℕ) : ℕ := (S.filter fun t => t.val < n).card

variable {S : Finset (Fin 1024)}

theorem cnt_zero : cnt S 0 = 0 := by simp [cnt]

theorem cnt_all : cnt S 1024 = S.card := by
  unfold cnt; congr 1; ext t; simp [t.isLt]

theorem cnt_mono {a b : ℕ} (h : a ≤ b) : cnt S a ≤ cnt S b :=
  Finset.card_le_card fun t ht => by
    rw [Finset.mem_filter] at ht ⊢; exact ⟨ht.1, by omega⟩

theorem cnt_succ (t : Fin 1024) : cnt S (t.val + 1) = cnt S t.val + if t ∈ S then 1 else 0 := by
  unfold cnt
  by_cases h : t ∈ S
  · rw [if_pos h, ← Finset.card_insert_of_notMem (a := t) (by simp)]
    congr 1; ext s
    simp only [Finset.mem_filter, Finset.mem_insert]
    constructor
    · rintro ⟨a, b⟩
      by_cases e : s = t
      · exact .inl e
      · exact .inr ⟨a, by have : s.val ≠ t.val := fun h => e (Fin.ext h); omega⟩
    · rintro (rfl | ⟨a, b⟩)
      · exact ⟨h, by omega⟩
      · exact ⟨a, by omega⟩
  · rw [if_neg h, Nat.add_zero]
    congr 1; ext s
    simp only [Finset.mem_filter]
    constructor
    · rintro ⟨a, b⟩
      have : s.val ≠ t.val := fun e => h (Fin.ext e ▸ a)
      exact ⟨a, by omega⟩
    · rintro ⟨a, b⟩; exact ⟨a, by omega⟩

theorem cnt_le (n : ℕ) : cnt S n ≤ n := by
  unfold cnt
  calc (S.filter fun t => t.val < n).card = ((S.filter fun t => t.val < n).image Fin.val).card :=
        (Finset.card_image_of_injective _ Fin.val_injective).symm
    _ ≤ (Finset.range n).card := Finset.card_le_card fun x hx => by
        rw [Finset.mem_image] at hx
        obtain ⟨t, ht, rfl⟩ := hx
        rw [Finset.mem_filter] at ht
        exact Finset.mem_range.2 ht.2
    _ = n := Finset.card_range n

theorem cnt_lt_of_mem {s : Fin 1024} (hs : s ∈ S) {n : ℕ} (h : s.val < n) : cnt S s.val < cnt S n := by
  have h1 := cnt_succ (S := S) s
  rw [if_pos hs] at h1
  have := cnt_mono (S := S) (a := s.val + 1) (b := n) h
  omega

/-- Two tokens of the set with as many before them are one. -/
theorem cnt_inj {s t : Fin 1024} (hs : s ∈ S) (ht : t ∈ S) (h : cnt S s.val = cnt S t.val) : s = t := by
  rcases lt_trichotomy s.val t.val with hl | he | hl
  · have := cnt_lt_of_mem hs hl; omega
  · exact Fin.ext he
  · have := cnt_lt_of_mem ht hl; omega

/-- Every number below the count up to `n` is the count at a token of the set before `n`. -/
theorem exists_cnt {n : ℕ} (hn : n ≤ 1024) {k : ℕ} (hk : k < cnt S n) : ∃ t ∈ S, t.val < n ∧ cnt S t.val = k := by
  induction n with
  | zero => rw [cnt_zero] at hk; omega
  | succ n ih =>
    have hs := cnt_succ (S := S) ⟨n, by omega⟩
    by_cases h : k < cnt S n
    · obtain ⟨t, h1, h2, h3⟩ := ih (by omega) h
      exact ⟨t, h1, by omega, h3⟩
    · by_cases hm : (⟨n, by omega⟩ : Fin 1024) ∈ S
      · rw [if_pos hm] at hs
        refine ⟨⟨n, by omega⟩, hm, by simp, ?_⟩
        simp only at hs ⊢
        omega
      · rw [if_neg hm] at hs
        simp only at hs
        omega

/-! ## The loops -/

/-- The number `n` as a word. -/
abbrev wd (n : ℕ) : BitVec 32 := BitVec.ofNat 32 n

theorem wd_int {n : ℕ} (h : n < 2 ^ 31) : Affine.IsInt (wd n) (n : Int) := Affine.ofNat n ⟨rfl, h⟩

theorem wd_toNat {n : ℕ} (h : n < 2 ^ 31) : (wd n).toNat = n := by
  rw [BitVec.toNat_ofNat]; omega

/-- A loop from zero, up to a small number of steps of one. -/
theorem iv_wd (a k : ℕ) : Scf.iv (wd a) 1#32 k = wd (a + k) := by
  simp only [Scf.iv, wd, BitVec.mul_one]
  rw [BitVec.ofNat_add]

theorem t1_trips : k0_t1_loop.trips = 8 := by decide

theorem t1_ok : k0_t1_loop.OK := by decide

theorem iv_zero (i : ℕ) : Scf.iv 0#32 1#32 i = wd i := by have := iv_wd 0 i; rwa [Nat.zero_add] at this

theorem v31_eq' (i : ℕ) : Scalar.muli (Scf.iv 0#32 1#32 i) 128#32 = wd (128 * i) := by
  rw [iv_zero]
  simp only [Scalar.muli, IntOp.muli, wd]
  rw [show (128#32 : BitVec 32) = BitVec.ofNat 32 128 from rfl, ← BitVec.ofNat_mul, Nat.mul_comm]

theorem v31_eq (i : ℕ) (hi : i < 8) : Scalar.muli (Scf.iv 0#32 1#32 i) 128#32 = wd (128 * i) := v31_eq' i

theorem t1_lt (i : Fin k0_t1_loop.trips) : i.val < 8 := lt_of_lt_of_eq i.isLt t1_trips

theorem sub_int {a b : ℕ} (hab : a ≤ b) (hb : b ≤ 1024) : Affine.IsInt (Scalar.muli (Scalar.divsi (Scalar.subi (wd b) (wd a)) 1#32) 1#32) ((b - a : ℕ) : Int) := by
  rw [Scalar.muli_divsi_one]
  exact Affine.subi (wd_int (by omega)) (wd_int (by omega)) ⟨by omega, by omega, by omega⟩

theorem t2_trips (i : Fin k0_t1_loop.trips) : (k0_t2_loop i).trips = 128 := by
  have hi := t1_lt i
  unfold k0_t2_loop Scf.Loop.trips
  simp only [v31_eq i.val hi]
  have h1 : Scalar.muli (Scalar.addi (Scf.iv 0#32 1#32 i.val) 1#32) 128#32 = wd (128 * (i.val + 1)) := by
    rw [show Scalar.addi (Scf.iv 0#32 1#32 i.val) 1#32 = Scf.iv 0#32 1#32 (i.val + 1) by
      rw [iv_zero, iv_zero]; exact (BitVec.ofNat_add _ _).symm]
    exact v31_eq' (i.val + 1)
  rw [h1]
  refine Affine.trips_eq (wd_int (n := 128 * i.val) (by omega))
    (Affine.addi (e := ((128 * (i.val + 1) : ℕ) : Int)) (wd_int (by omega))
      (sub_int (a := 128 * i.val) (b := 128 * (i.val + 1)) (by omega) (by omega)) ⟨by omega, by omega, by omega⟩)
    (wd_int (n := 1) (by decide)) 128 ⟨by decide, ?_⟩
  simp only [Nat.cast_one, Int.ediv_one]; omega

theorem t3_trips (i : Fin k0_t1_loop.trips) : (k0_t3_loop i).trips = 0 := Scf.rem_trips _ _

theorem off1_eq (i : Fin k0_t1_loop.trips) (j : Fin (k0_t2_loop i).trips) : k0_off1 i j = ![128 * i.val + j.val] := by
  have hi := t1_lt i
  have hj := lt_of_lt_of_eq j.isLt (t2_trips i)
  unfold k0_off1
  simp only [v31_eq' i.val]
  rw [iv_wd, Scalar.indexCast, wd_toNat (by omega)]

theorem off2_eq {n : ℕ} (hn : n < 2 ^ 31) : k0_off2 (wd n) = ![n] := by
  unfold k0_off2
  simp only [Scalar.indexCast]
  rw [wd_toNat hn]

theorem chk1 {n : ℕ} (hn : n < 1024) : k0_chk1 (wd n) := by
  unfold k0_chk1
  rw [off2_eq (by omega)]
  intro a
  fin_cases a
  show n + 1 ≤ 1024
  omega

section Issue

variable {a b : ℕ} (hab : a ≤ b) (hb : b ≤ 1024)

include hab hb

theorem t4_trips : (k0_t4_loop (wd a) (wd b)).trips = b - a := by
  refine Affine.trips_eq (wd_int (n := a) (by omega))
    (Affine.addi (e := (b : Int)) (wd_int (by omega)) (sub_int hab hb) ⟨by omega, by omega, by omega⟩)
    (wd_int (n := 1) (by decide)) (b - a) ⟨by decide, ?_⟩
  simp only [Nat.cast_one, Int.ediv_one]; omega

theorem t4_ok : (k0_t4_loop (wd a) (wd b)).OK := by
  refine Affine.ok (wd_int (n := a) (by omega))
    (Affine.addi (e := (b : Int)) (wd_int (by omega)) (sub_int hab hb) ⟨by omega, by omega, by omega⟩)
    (wd_int (n := 1) (by decide)) ⟨by decide, ?_⟩
  simp only [Nat.cast_one, Int.ediv_one, Int.mul_one]; omega

theorem t5_trips : (k0_t5_loop (wd a) (wd b)).trips = 0 := Scf.rem_trips _ _

theorem off5_eq (k : Fin (k0_t4_loop (wd a) (wd b)).trips) : k0_off5 (wd a) (wd b) k = ![a + k.val] := by
  have hk := lt_of_lt_of_eq k.isLt (t4_trips hab hb)
  unfold k0_off5
  simp only [iv_wd, Scalar.indexCast]
  rw [wd_toNat (by omega)]

theorem chk3 : k0_chk3 (wd a) (wd b) := by
  refine ⟨t4_ok hab hb, fun k a' => ?_, Scf.rem_ok _ _, fun k => (Scf.rem_no_trip _ _ k).elim⟩
  have hk := lt_of_lt_of_eq k.isLt (t4_trips hab hb)
  rw [off5_eq hab hb]
  fin_cases a'
  show a + k.val + 1 ≤ 1024
  omega

end Issue

theorem off6_eq {t : ℕ} (ht : t < 1024) : k0_off6 (wd t) = ![t, 0] := by
  unfold k0_off6
  rw [wd_toNat (by omega)]

theorem off8_eq {t : ℕ} (ht : t < 1024) : k0_off8 (wd t) = ![t, 0] := off6_eq ht

theorem chk4 {t : ℕ} (ht : t < 1024) : k0_chk4 (wd t) := by
  constructor
  all_goals
    first | rw [off6_eq ht] | rw [off8_eq ht]
    intro a
    fin_cases a
    · show t + 1 ≤ 1024
      omega
    · show 0 + 1024 ≤ 1024
      omega

theorem off7_eq (w : BitVec 32) : k0_off7 w = ![w.toNat, 0] := rfl

theorem chk5 {w : BitVec 32} (hw : w.toNat < 8192) : k0_chk5 w := by
  unfold k0_chk5
  rw [off7_eq]
  intro a
  fin_cases a
  · show w.toNat + 1 ≤ 8192
    omega
  · show 0 + 1024 ≤ 1024
    omega

section Drain

variable {k : ℕ} (hk : k ≤ 1024)

include hk

theorem t6_trips : (k0_t6_loop (wd k)).trips = k := by
  refine Affine.trips_eq (wd_int (n := 0) (by omega))
    (Affine.addi (e := (k : Int)) (wd_int (n := 0) (by omega)) (sub_int (a := 0) (Nat.zero_le k) hk) ⟨by omega, by omega, by omega⟩)
    (wd_int (n := 1) (by decide)) k ⟨by decide, ?_⟩
  simp only [Nat.cast_one, Int.ediv_one]; omega

theorem t6_ok : (k0_t6_loop (wd k)).OK := by
  refine Affine.ok (wd_int (n := 0) (by omega))
    (Affine.addi (e := (k : Int)) (wd_int (n := 0) (by omega)) (sub_int (a := 0) (Nat.zero_le k) hk) ⟨by omega, by omega, by omega⟩)
    (wd_int (n := 1) (by decide)) ⟨by decide, ?_⟩
  simp only [Nat.cast_one, Int.ediv_one, Int.mul_one]; omega

theorem t7_trips : (k0_t7_loop (wd k)).trips = 0 := Scf.rem_trips _ _

theorem t9_trips : (k0_t9_loop (wd k)).trips = 0 := Scf.rem_trips _ _

theorem rest_int : Affine.IsInt (Scalar.muli (Scalar.divsi (Scalar.subi (Scalar.subi 1024#32 (wd k)) 0#32) 1#32) 1#32) ((1024 - k : ℕ) : Int) := by
  rw [Scalar.muli_divsi_one]
  exact Affine.subi (Affine.subi (e := ((1024 - k : ℕ) : Int)) (wd_int (n := 1024) (by omega)) (wd_int (by omega)) ⟨by omega, by omega, by omega⟩)
    (wd_int (n := 0) (by omega)) ⟨by omega, by omega, by omega⟩

theorem t8_trips : (k0_t8_loop (wd k)).trips = 1024 - k := by
  refine Affine.trips_eq (wd_int (n := 0) (by omega))
    (Affine.addi (e := ((1024 - k : ℕ) : Int)) (wd_int (n := 0) (by omega)) (rest_int hk) ⟨by omega, by omega, by omega⟩)
    (wd_int (n := 1) (by decide)) (1024 - k) ⟨by decide, ?_⟩
  simp only [Nat.cast_one, Int.ediv_one]; omega

theorem t8_ok : (k0_t8_loop (wd k)).OK := by
  refine Affine.ok (wd_int (n := 0) (by omega))
    (Affine.addi (e := ((1024 - k : ℕ) : Int)) (wd_int (n := 0) (by omega)) (rest_int hk) ⟨by omega, by omega, by omega⟩)
    (wd_int (n := 1) (by decide)) ⟨by decide, ?_⟩
  simp only [Nat.cast_one, Int.ediv_one, Int.mul_one]; omega

theorem chk8 : k0_chk8 (wd k) := ⟨t6_ok hk, Scf.rem_ok _ _, t8_ok hk, Scf.rem_ok _ _⟩

end Drain

end Cert.KernelIdeal.Lookup

end
-- ==== Proof.Rows.lean ====
module

public import proofs.«01_k».proof.Proof.Words

@[expose] public section

set_option maxRecDepth 16384

/-! # What the kernel's accesses read and write

A word of a list in scalar memory, and one row of the table copied onto one row of the result. -/

noncomputable section

namespace Cert.KernelIdeal.Lookup

open Idealize.ShloMosaic Idealize.SL.Sem

variable {F : FTy → Type} [FloatOps F]

/-! ## Words of a list -/

/-- The index of position `t` of a list of 1024 words. -/
def ix (t : Fin 1024) : S1024.Idx := fun a => ⟨t.val, by fin_cases a; exact t.isLt⟩

theorem ix_val (t : Fin 1024) (a : Fin 1) : (ix t a).val = t.val := rfl

theorem ix_inj {s t : Fin 1024} (h : ix s = ix t) : s = t := Fin.ext (congrArg (fun f => (f (0 : Fin 1)).val) h)

theorem ix_surj (i : S1024.Idx) : ∃ t, i = ix t := by
  refine ⟨⟨(i 0).val, (i 0).isLt⟩, ?_⟩
  funext a
  fin_cases a
  rfl

/-- The rectangle of one word at position `n`, and where its one index lies. -/
theorem word_emb {off : Fin 1 → ℕ} {inb : ∀ a, off a + S1.size a ≤ S1024.size a} (x : S1.Idx) {n : Fin 1024}
    (h : off = ![n.val]) : (Rect.unit (s := S1024) off S1.size inb).emb x = ix n := by
  subst h
  funext a
  apply Fin.ext
  have hx : (x a).val = 0 := by
    have := (x a).isLt
    fin_cases a
    have h1 : (x 0).val < 1 := this
    show (x 0).val = 0
    omega
  rw [Rect.emb_apply, hx]
  fin_cases a
  rfl

/-- Reading the word at position `n` of the ids. -/
theorem read_ids (f : S1024.Idx → BitVec 32) {off : Fin 1 → ℕ} {inb : ∀ a, off a + S1.size a ≤ S1024.size a} (x : S1.Idx)
    {n : Fin 1024} (h : off = ![n.val]) :
    ((Memref.whole cc0_stg0_0 : Memref sig .tc .smem S1024 .i32).access (Rect.unit (s := S1024) off S1.size inb)).read (Elt F) f x = f (ix n) :=
  congrArg f (word_emb x h)

/-- Reading the word at position `n` of the list of tokens. -/
theorem read_tok (f : S1024.Idx → BitVec 32) {off : Fin 1 → ℕ} {inb : ∀ a, off a + S1.size a ≤ S1024.size a} (x : S1.Idx)
    {n : Fin 1024} (h : off = ![n.val]) :
    ((Memref.whole cc0_scratch0 : Memref sig .tc .smem S1024 .i32).access (Rect.unit (s := S1024) off S1.size inb)).read (Elt F) f x = f (ix n) :=
  congrArg f (word_emb x h)

/-- Reading the word at position `n` of the list of rows. -/
theorem read_row (f : S1024.Idx → BitVec 32) {off : Fin 1 → ℕ} {inb : ∀ a, off a + S1.size a ≤ S1024.size a} (x : S1.Idx)
    {n : Fin 1024} (h : off = ![n.val]) :
    ((Memref.whole cc0_scratch1 : Memref sig .tc .smem S1024 .i32).access (Rect.unit (s := S1024) off S1.size inb)).read (Elt F) f x = f (ix n) :=
  congrArg f (word_emb x h)

/-- The index of the one word of a list of one. -/
def x0 : S1.Idx := fun a => ⟨0, by fin_cases a; decide⟩

/-- Storing a word at position `n` of the list of tokens changes that word alone. -/
theorem write_tok (f : S1024.Idx → BitVec 32) (w : BitVec 32) {off : Fin 1 → ℕ} {inb : ∀ a, off a + S1.size a ≤ S1024.size a}
    {n : Fin 1024} (h : off = ![n.val]) (s : Fin 1024) :
    ((Memref.whole cc0_scratch0 : Memref sig .tc .smem S1024 .i32).access (Rect.unit (s := S1024) off S1.size inb)).write (Elt F) f
      (fun _ => w) Finset.univ (ix s) = if s = n then w else f (ix s) := by
  set v := ((Memref.whole cc0_scratch0 : Memref sig .tc .smem S1024 .i32).access (Rect.unit (s := S1024) off S1.size inb)) with hv
  have he : ∀ x, v.emb x = ix n := fun x => word_emb x h
  split
  · rename_i hs
    subst hs
    have := View.write_emb_of_mem (Val := Elt F) (v := v) f (fun _ => w) (Finset.mem_univ x0)
    rw [he] at this
    exact this
  · rename_i hs
    refine View.write_of_not_mem (Val := Elt F) (v := v) f (fun _ => w) Finset.univ ?_
    rw [View.setOn_univ]
    intro hm
    obtain ⟨x, -, hx⟩ := Finset.mem_map.1 hm
    rw [he] at hx
    exact hs (ix_inj hx).symm

/-- Storing a word at position `n` of the list of rows changes that word alone. -/
theorem write_row (f : S1024.Idx → BitVec 32) (w : BitVec 32) {off : Fin 1 → ℕ} {inb : ∀ a, off a + S1.size a ≤ S1024.size a}
    {n : Fin 1024} (h : off = ![n.val]) (s : Fin 1024) :
    ((Memref.whole cc0_scratch1 : Memref sig .tc .smem S1024 .i32).access (Rect.unit (s := S1024) off S1.size inb)).write (Elt F) f
      (fun _ => w) Finset.univ (ix s) = if s = n then w else f (ix s) := by
  set v := ((Memref.whole cc0_scratch1 : Memref sig .tc .smem S1024 .i32).access (Rect.unit (s := S1024) off S1.size inb)) with hv
  have he : ∀ x, v.emb x = ix n := fun x => word_emb x h
  split
  · rename_i hs
    subst hs
    have := View.write_emb_of_mem (Val := Elt F) (v := v) f (fun _ => w) (Finset.mem_univ x0)
    rw [he] at this
    exact this
  · rename_i hs
    refine View.write_of_not_mem (Val := Elt F) (v := v) f (fun _ => w) Finset.univ ?_
    rw [View.setOn_univ]
    intro hm
    obtain ⟨x, -, hx⟩ := Finset.mem_map.1 hm
    rw [he] at hx
    exact hs (ix_inj hx).symm

/-! ## Rows -/

/-- Row `off 0` of the result's staging buffer, as the kernel slices it. -/
abbrev outRow (off : Fin 2 → ℕ) (inb : ∀ a, off a + S1x1024.size a ≤ S1024x1024.size a) : Memref sig .tc .vmem S1x1024 .f32 :=
  (Memref.whole cc0_stg1_0).slice (Rect.unit (s := S1024x1024) off S1x1024.size inb) (fun _ => rfl)

/-- Row `off 0` of the device's half of the table. -/
abbrev tabRow (off : Fin 2 → ℕ) (inb : ∀ a, off a + S1x1024.size a ≤ S8192x1024.size a) : Memref sig .tc .hbm S1x1024 .f32 :=
  (Memref.whole main_arg1).slice (Rect.unit (s := S8192x1024) off S1x1024.size inb) (fun _ => rfl)

/-- The indices of row `t` of the result. -/
def outSet (t : Fin 1024) : Finset S1024x1024.Idx := Finset.univ.filter fun i => (i 0).val = t.val

/-- The indices of row `r` of a half of the table. -/
def tabSet (r : ℕ) : Finset S8192x1024.Idx := Finset.univ.filter fun i => (i 0).val = r

theorem mem_outSet {t : Fin 1024} {i : S1024x1024.Idx} : i ∈ outSet t ↔ (i 0).val = t.val := by
  simp [outSet]

theorem outSet_disjoint {s t : Fin 1024} (h : s ≠ t) : Disjoint (outSet s) (outSet t) := by
  rw [Finset.disjoint_left]
  intro i hs ht
  rw [mem_outSet] at hs ht
  exact h (Fin.ext (hs.symm.trans ht))

/-- The rows make up the whole result. -/
theorem outSet_cover : (Finset.univ : Finset (Fin 1024)).biUnion outSet = Finset.univ := by
  ext i
  simp only [Finset.mem_biUnion, Finset.mem_univ, true_and, iff_true]
  exact ⟨⟨(i 0).val, (i 0).isLt⟩, mem_outSet.2 rfl⟩

theorem outRow_set {off : Fin 2 → ℕ} {inb : ∀ a, off a + S1x1024.size a ≤ S1024x1024.size a} {t : Fin 1024}
    (h : off = ![t.val, 0]) : (outRow off inb).view.set = outSet t := by
  subst h
  refine (View.set_slice_whole (κ := .tc) cc0_stg1_0 _).trans ?_
  ext i
  rw [Rect.mem_set_unit, mem_outSet]
  have h1 : (i 1).val < 1024 := (i 1).isLt
  constructor
  · intro H
    have := H 0
    simp only [Matrix.cons_val_zero] at this
    have h2 : S1x1024.size 0 = 1 := rfl
    omega
  · intro H a
    fin_cases a
    · show t.val ≤ (i 0).val ∧ (i 0).val < t.val + 1
      omega
    · show 0 ≤ (i 1).val ∧ (i 1).val < 0 + 1024
      omega

theorem tabRow_set {off : Fin 2 → ℕ} {inb : ∀ a, off a + S1x1024.size a ≤ S8192x1024.size a} {r : ℕ}
    (h : off = ![r, 0]) : (tabRow off inb).view.set = tabSet r := by
  subst h
  refine (View.set_slice_whole (κ := .tc) main_arg1 _).trans ?_
  ext i
  rw [Rect.mem_set_unit, tabSet, Finset.mem_filter]
  have h1 : (i 1).val < 1024 := (i 1).isLt
  constructor
  · intro H
    have := H 0
    simp only [Matrix.cons_val_zero] at this
    have h2 : S1x1024.size 0 = 1 := rfl
    exact ⟨Finset.mem_univ _, by omega⟩
  · rintro ⟨-, H⟩ a
    fin_cases a
    · show r ≤ (i 0).val ∧ (i 0).val < r + 1
      omega
    · show 0 ≤ (i 1).val ∧ (i 1).val < 0 + 1024
      omega

/-- A row's index in its buffer. -/
theorem row_emb {m : ℕ} {off : Fin 2 → ℕ} {inb : ∀ a, off a + S1x1024.size a ≤ (⟨2, ![m, 1024]⟩ : Shape).size a} (x : S1x1024.Idx) {r : Fin m}
    (h : off = ![r.val, 0]) :
    (Rect.unit (s := ⟨2, ![m, 1024]⟩) off S1x1024.size inb).emb x = Shape.pair (d := ![m, 1024]) r (x 1) := by
  subst h
  have h0 : (x 0).val = 0 := by
    have : (x 0).val < 1 := (x 0).isLt
    omega
  funext a
  apply Fin.ext
  rw [Rect.emb_apply]
  fin_cases a
  · show r.val + 1 * (x 0).val = r.val
    omega
  · show 0 + 1 * (x 1).val = (x 1).val
    omega

/-- One row of the table copied onto row `t` of the result: afterwards row `t` holds the table's row. -/
theorem copy_row (fd : S1024x1024.Idx → Elt F .f32) (fs : S8192x1024.Idx → Elt F .f32)
    {off : Fin 2 → ℕ} {inb : ∀ a, off a + S1x1024.size a ≤ S1024x1024.size a}
    {off' : Fin 2 → ℕ} {inb' : ∀ a, off' a + S1x1024.size a ≤ S8192x1024.size a} {t : Fin 1024} {r : Fin 8192}
    (h : off = ![t.val, 0]) (h' : off' = ![r.val, 0]) {i : S1024x1024.Idx} (hi : i ∈ outSet t) :
    (outRow off inb).view.write (Elt F) fd ((tabRow off' inb').view.read (Elt F) fs) Finset.univ i
      = fs (Shape.pair (d := ![8192, 1024]) r (i 1)) := by
  set v := (outRow off inb).view with hv
  have hi' : i ∈ (outRow off inb).view.set := (outRow_set (inb := inb) h).symm ▸ hi
  obtain ⟨x, -, rfl⟩ := Finset.mem_map.1 hi'
  have h1 := View.write_emb_of_mem (Val := Elt F) (v := v) fd ((tabRow off' inb').view.read (Elt F) fs) (Finset.mem_univ x)
  refine h1.trans ?_
  have hx : v.emb x = Shape.pair (d := ![1024, 1024]) t (x 1) := row_emb (m := 1024) x h
  show fs ((Rect.unit (s := S8192x1024) off' S1x1024.size inb').emb x) = _
  refine congrArg fs ((row_emb (m := 8192) x h').trans ?_)
  rw [hx]
  rfl

end Cert.KernelIdeal.Lookup

end

end
-- ==== Proof.Protocol.lean ====
module

public import proofs.«01_k».proof.Proof.Rows
public import Idealize.ShloMosaic.Lib.ShareLeaves
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.StableHlo.CollectiveRules
public import Idealize.ShloMosaic.Lib.Pipeline.CollectiveSegs

@[expose] public section

set_option maxRecDepth 16384

/-! # How two partner devices exchange rows

What each counter of the kernel stands for: which tokens it counts, how much each adds, and which rows of which buffers come with it. -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Separating conjunctions over sets, taken apart -/

theorem sep_diff {M I : Type} [URA M] [DecidableEq I] {s t : Finset I} (h : t ⊆ s) (Φ : I → sProp M) :
    bigSep s Φ = iprop(bigSep t Φ ∗ bigSep (s \ t) Φ) := bigSep_sdiff_split h

theorem sep_erase {M I : Type} [URA M] [DecidableEq I] {s : Finset I} {i : I} (h : i ∈ s) (Φ : I → sProp M) :
    bigSep s Φ = iprop(Φ i ∗ bigSep (s.erase i) Φ) := bigSep_erase h

theorem sep_union {M I : Type} [URA M] [DecidableEq I] {s t : Finset I} (h : Disjoint s t) (Φ : I → sProp M) :
    bigSep (s ∪ t) Φ = iprop(bigSep s Φ ∗ bigSep t Φ) := bigSep_union h

theorem sep_both {M I : Type} [URA M] (s : Finset I) (Φ Ψ : I → sProp M) :
    bigSep s (fun i => iprop(Φ i ∗ Ψ i)) = iprop(bigSep s Φ ∗ bigSep s Ψ) := bigSep_sep s Φ Ψ

/-! ## The resource algebra -/

/-- The counters of the host's exchange, whose duties are named by devices; and the kernel's, whose duties are named by tokens. -/
abbrev UA : Type := URounds (GSem nD τ sig) (Dev nD)
abbrev UB : Type := URounds (GSem nD τ sig) (Fin 1024)
abbrev UU : Type := UR sig nD τ × (UA × UB)

local notation "𝕄" => MT nD τ sig Unit (Elt F) ℕ UU ℕ

abbrev EP : Emb (UR sig nD τ) (MT nD τ sig Unit (Elt F) ℕ UU ℕ) := embL
/-- The host's exchange in the whole algebra. -/
def EA : Emb UA (MT nD τ sig Unit (Elt F) ℕ UU ℕ) := (Emb.inl : Emb UA (UA × UB)).trans embR
/-- The kernel's counters in the whole algebra. -/
def EB : Emb UB (MT nD τ sig Unit (Elt F) ℕ UU ℕ) := (Emb.inr : Emb UB (UA × UB)).trans embR

instance EA_landsIn : (EA : Emb UA 𝕄).LandsIn (upEmb : UEmb _ 𝕄) := by unfold EA embR; infer_instance
instance EB_landsIn : (EB : Emb UB 𝕄).LandsIn (upEmb : UEmb _ 𝕄) := by unfold EB embR; infer_instance

/-! ## The tables, and what the result has to be -/

/-- What the kernel starts from on all devices: the ids each device looks up and its half of the table. Partners look up the same ids,
    and every id is a row of the whole table. -/
structure Tables (F : FTy → Type) where
  w : Dev nD → S1024.Idx → BitVec 32
  E : Dev nD → S8192x1024.Idx → Elt F .f32
  agree : ∀ c, w (peer c) = w c
  lt : ∀ c i, (w c i).toNat < 16384

variable (T : Tables F)

/-- The tokens whose row lies on device `c`. -/
def own (c : Dev nD) : Finset (Fin 1024) := Finset.univ.filter fun t => Mine c (T.w c (ix t))

theorem mem_own {c : Dev nD} {t : Fin 1024} : t ∈ own T c ↔ Mine c (T.w c (ix t)) := by simp [own]

/-- The partner holds exactly the rows of the other tokens. -/
theorem mem_own_peer {c : Dev nD} {t : Fin 1024} : t ∈ own T (peer c) ↔ t ∉ own T c := by
  rw [mem_own, mem_own, T.agree, mine_peer c (T.lt c _)]

theorem own_peer (c : Dev nD) : own T (peer c) = Finset.univ \ own T c := by
  ext t; rw [mem_own_peer]; simp

theorem own_disjoint (c : Dev nD) : Disjoint (own T c) (own T (peer c)) := by
  rw [own_peer]; exact Finset.disjoint_sdiff

theorem own_union (c : Dev nD) : own T c ∪ own T (peer c) = Finset.univ := by
  rw [own_peer]; exact Finset.union_sdiff_of_subset (Finset.subset_univ _)

theorem card_own_peer (c : Dev nD) : (own T (peer c)).card = 1024 - (own T c).card := by
  rw [own_peer, Finset.card_sdiff_of_subset (Finset.subset_univ _), Finset.card_univ, Fintype.card_fin]

/-- The row of its device's half that a word names. -/
def rowOf (w : BitVec 32) : Fin 8192 := ⟨w.toNat % 8192, Nat.mod_lt _ (by decide)⟩

theorem sub_base_row (c : Dev nD) {w : BitVec 32} (hw : Mine c w) : (Scalar.subi w (base c)).toNat = (rowOf w).val := by
  rw [sub_base_toNat c hw]
  show _ = w.toNat % 8192
  unfold Mine at hw
  omega

/-- What the result holds on device `c`: at each token, the row its id names, out of the half that has it. -/
def outVal (c : Dev nD) : S1024x1024.Idx → Elt F .f32 := fun i =>
  T.E (if Mine c (T.w c (ix (i 0))) then c else peer c) (Shape.pair (d := ![8192, 1024]) (rowOf (T.w c (ix (i 0)))) (i 1))

/-- Partners end with the same result. -/
theorem outVal_peer (c : Dev nD) : outVal T (peer c) = outVal T c := by
  funext i
  unfold outVal
  rw [T.agree]
  by_cases h : Mine c (T.w c (ix (i 0)))
  · rw [if_pos h, if_neg (fun h' => (mine_peer c (T.lt c _)).1 h' h), peer_peer]
  · rw [if_neg h, if_pos ((mine_peer c (T.lt c _)).2 h)]

/-- The row a token of device `c`'s own reads. -/
def srcRow (c : Dev nD) (t : Fin 1024) : Fin 8192 := rowOf (T.w c (ix t))

theorem outVal_own {c : Dev nD} {t : Fin 1024} (ht : t ∈ own T c) {i : S1024x1024.Idx} (hi : i ∈ outSet t) :
    outVal T c i = T.E c (Shape.pair (d := ![8192, 1024]) (srcRow T c t) (i 1)) := by
  have h0 : i 0 = t := Fin.ext (mem_outSet.1 hi)
  unfold outVal srcRow
  rw [h0, if_pos (mem_own T |>.1 ht)]

/-! ## Cells -/

abbrev barS : Sem sig := sig.barrier 0 rfl
abbrev copyS : DmaSem sig := cc0_scratch2.sem
abbrev sendS : DmaSem sig := cc0_scratch3.sem
abbrev recvS : DmaSem sig := cc0_scratch4.sem

abbrev barCell (c : Dev nD) : GSem nD τ sig := ((c : Thread nD τ), .reg barS)
abbrev copyCell (c : Dev nD) : GSem nD τ sig := ((c : Thread nD τ), .dma copyS)
abbrev sendCell (c : Dev nD) : GSem nD τ sig := ((c : Thread nD τ), .dma sendS)
abbrev recvCell (c : Dev nD) : GSem nD τ sig := ((c : Thread nD τ), .dma recvS)

theorem copy_ne_send : (SemLoc.dma copyS : SemLoc sig) ≠ .dma sendS := by decide
theorem copy_ne_recv : (SemLoc.dma copyS : SemLoc sig) ≠ .dma recvS := by decide
theorem send_ne_recv : (SemLoc.dma sendS : SemLoc sig) ≠ .dma recvS := by decide
theorem dma_ne_bar (s : DmaSem sig) : (SemLoc.dma s : SemLoc sig) ≠ .reg barS := fun h => by cases h

/-- A view's credit depends only on its shape and its element type. -/
theorem credit_eq (tb : Table) (b : Fin (sig.nBuf tb)) (s : Shape) (e : EltTy) : sig.dmaCredit .tc tb b s e = RefSig.tileCredit s e := rfl

/-- What the copy of one row adds to a counter. -/
def N : ℕ := RefSig.tileCredit S1x1024 .f32
theorem out_credit {off : Fin 2 → ℕ} {inb : ∀ a, off a + S1x1024.size a ≤ S1024x1024.size a} : (outRow off inb).view.dmaCredit = N := by
  unfold N; exact credit_eq _ _ _ _
theorem tab_credit {off : Fin 2 → ℕ} {inb : ∀ a, off a + S1x1024.size a ≤ S8192x1024.size a} : (tabRow off inb).view.dmaCredit = N := by
  unfold N; exact credit_eq _ _ _ _
theorem N_pos : 0 < N := RefSig.tileCredit_pos _ _ (by decide)
attribute [irreducible] N

/-! ## Pieces of the buffers -/

/-- Part of the result's staging buffer on device `c`. -/
abbrev outPt (c : Dev nD) (S : Finset S1024x1024.Idx) (f : S1024x1024.Idx → Elt F .f32) : sProp 𝕄 :=
  (Memref.whole cc0_stg1_0 : Memref sig .tc .vmem S1024x1024 .f32).view.loc (c : Thread nD τ) ↦[S]{fullShare} f
/-- Part of device `c`'s half of the table, at a share. -/
abbrev tabPt (c : Dev nD) (S : Finset S8192x1024.Idx) (q : PosShare TreeShare) : sProp 𝕄 :=
  (Memref.whole main_arg1 : Memref sig .tc .hbm S8192x1024 .f32).view.loc (c : Thread nD τ) ↦[S]{q} T.E c

/-- The share of the table that token `t`'s send reads through, and the one its local copy reads through. -/
def sendQ (t : Fin 1024) : PosShare TreeShare := ShareLeaves.leaf 10 (fullShare : PosShare TreeShare).left t
def copyQ (t : Fin 1024) : PosShare TreeShare := ShareLeaves.leaf 10 (fullShare : PosShare TreeShare).right t

/-! ## The schedule -/

/-- Paid to device `c`'s entry counter by the partner: the partner's result rows that `c` will fill, and that the partner's arrival counter is open. -/
def barPay (c : Dev nD) : sProp 𝕄 :=
  iprop((bigSep (own T c) fun t => iprop(∃ f, outPt (peer c) (outSet t) f)) ∗ reached EB (recvCell (peer c)) 0)
/-- Paid when row `t` of the result has arrived on device `c`. -/
def recvPay (c : Dev nD) (t : Fin 1024) : sProp 𝕄 := outPt c (outSet t) (outVal T c)
/-- Paid when row `t` has left device `c`: the table's row, given back. -/
def sendPay (c : Dev nD) (t : Fin 1024) : sProp 𝕄 := tabPt T c (tabSet (srcRow T c t).val) (sendQ t)
/-- Paid when row `t` is copied on device `c` itself. -/
def copyPay (c : Dev nD) (t : Fin 1024) : sProp 𝕄 :=
  iprop(outPt c (outSet t) (outVal T c) ∗ tabPt T c (tabSet (srcRow T c t).val) (copyQ t))

/-- One round: an entry counter is signalled once; the arrivals on a device are the partner's tokens; departures and local copies are its own tokens. -/
def rd : Rounds.Schedule (GSem nD τ sig) (Fin 1024) 𝕄 where
  duties g r :=
    if r = 0 ∧ g.1.2 = .tc then
      (if g.2 = .reg barS then {0} else if g.2 = .dma recvS then own T (peer g.1.1)
        else if g.2 = .dma copyS ∨ g.2 = .dma sendS then own T g.1.1 else ∅)
    else ∅
  unitless _ := False
  amount g _ _ := if g.2 = .reg barS then 1 else N
  payload g _ t :=
    if g.2 = .reg barS then barPay T g.1.1
    else if g.2 = .dma recvS then recvPay T g.1.1 t
    else if g.2 = .dma copyS then copyPay T g.1.1 t
    else if g.2 = .dma sendS then sendPay T g.1.1 t
    else iprop(emp)
  amount_pos g _ _ _ := by
    by_cases h : g.2 = .reg barS
    · rw [if_pos h]; exact Nat.one_pos
    · rw [if_neg h]; exact N_pos

instance rd_storable (g : GSem nD τ sig) (r : ℕ) (t : Fin 1024) : BI.Storable (upEmb : UEmb _ 𝕄) ((rd T).payload g r t) := by
  show BI.Storable upEmb (if g.2 = .reg barS then barPay T g.1.1 else if g.2 = .dma recvS then recvPay T g.1.1 t
    else if g.2 = .dma copyS then copyPay T g.1.1 t else if g.2 = .dma sendS then sendPay T g.1.1 t else iprop(emp))
  unfold barPay recvPay sendPay copyPay
  (repeat' split) <;> infer_instance

section Sched

variable (c : Dev nD)

theorem duties_bar : (rd T).duties (barCell c) 0 = {0} := by
  dsimp only [rd]; rw [if_pos ⟨rfl, rfl⟩, if_pos rfl]
theorem duties_recv : (rd T).duties (recvCell c) 0 = own T (peer c) := by
  dsimp only [rd]; rw [if_pos ⟨rfl, rfl⟩, if_neg (dma_ne_bar _), if_pos rfl]
theorem duties_copy : (rd T).duties (copyCell c) 0 = own T c := by
  dsimp only [rd]; rw [if_pos ⟨rfl, rfl⟩, if_neg (dma_ne_bar _), if_neg copy_ne_recv, if_pos (.inl rfl)]
theorem duties_send : (rd T).duties (sendCell c) 0 = own T c := by
  dsimp only [rd]; rw [if_pos ⟨rfl, rfl⟩, if_neg (dma_ne_bar _), if_neg send_ne_recv, if_pos (.inr rfl)]
theorem duties_later (g : GSem nD τ sig) : ∀ r, 1 ≤ r → (rd T).duties g r = ∅ :=
  fun r hr => by dsimp only [rd]; rw [if_neg (fun h => by omega)]

theorem amount_bar (t : Fin 1024) : (rd T).amount (barCell c) 0 t = 1 := by dsimp only [rd]; exact if_pos rfl
theorem amount_dma (s : DmaSem sig) (t : Fin 1024) : (rd T).amount ((c : Thread nD τ), .dma s) 0 t = N := by
  dsimp only [rd]; exact if_neg (dma_ne_bar s)

theorem expect_bar : (rd T).expect (barCell c) 0 = 1 := by
  unfold Schedule.expect Schedule.amountOf; rw [duties_bar, Finset.sum_singleton, amount_bar]
theorem expect_dma (s : DmaSem sig) :
    (rd T).expect ((c : Thread nD τ), .dma s) 0 = N * ((rd T).duties ((c : Thread nD τ), .dma s) 0).card := by
  unfold Schedule.expect Schedule.amountOf
  rw [Finset.sum_congr rfl fun t _ => amount_dma T c s t, Finset.sum_const, smul_eq_mul, Nat.mul_comm]

theorem payload_bar (t : Fin 1024) : (rd T).payload (barCell c) 0 t = barPay T c := by dsimp only [rd]; exact if_pos rfl
theorem payload_recv (t : Fin 1024) : (rd T).payload (recvCell c) 0 t = recvPay T c t := by
  dsimp only [rd]; rw [if_neg (dma_ne_bar _), if_pos rfl]
theorem payload_copy (t : Fin 1024) : (rd T).payload (copyCell c) 0 t = copyPay T c t := by
  dsimp only [rd]; rw [if_neg (dma_ne_bar _), if_neg copy_ne_recv, if_pos rfl]
theorem payload_send (t : Fin 1024) : (rd T).payload (sendCell c) 0 t = sendPay T c t := by
  dsimp only [rd]; rw [if_neg (dma_ne_bar _), if_neg send_ne_recv, if_neg copy_ne_send.symm, if_pos rfl]

theorem rest_bar : bigSep ((rd T).duties (barCell c) 0 \ ∅) (fun t => (rd T).payload (barCell c) 0 t) = barPay T c := by
  rw [Finset.sdiff_empty, duties_bar, bigSep_singleton, payload_bar]

end Sched

/-- A counter whose one round is over is closed, and reads zero. -/
theorem close (κ : ℕ) (g : GSem nD τ sig) :
    iprop(cellInv EB (rd T) κ g ∗ atPos EB g (0 + 1) ∅ 0) ⊢ (|={Set.univ}=> semVal g 0 : sProp 𝕄) :=
  Rounds.cell_close EB (rd T) (Set.mem_univ κ) id (duties_later T g)

/-! ## What a device owes, and the levels -/

/-- What device `c` still owes the partner's arrival counter when `n` of its tokens have not been sent. -/
abbrev sendDue (c : Dev nD) (n : ℕ) : CellTallies nD τ sig Unit := tallyAt (recvCell (peer c)) () (N * n)
/-- What device `c` owes when the kernel starts: every row it will send, and the partner's entry signal. -/
def kDue (c : Dev nD) : CellTallies nD τ sig Unit := sendDue c (own T c).card + tallyAt (barCell (peer c)) () 1

theorem sendDue_zero (c : Dev nD) : sendDue c 0 = 0 := by
  show tallyAt _ _ (N * 0) = _
  rw [Nat.mul_zero]; exact tallyAt_zero _ _

theorem sendDue_succ (c : Dev nD) (n : ℕ) : sendDue c (n + 1) = sendDue c n + tallyAt (recvCell (peer c)) () N := by
  show tallyAt _ _ (N * (n + 1)) = _
  rw [Nat.mul_succ]; exact (tallyAt_add _ _ _ _).symm

def L (g : GSem nD τ sig) : Finset Unit := if g.1.2 = .tc then {()} else ∅
/-- The order in which the counters are waited for: the host's entry and arrival, then the kernel's entry and arrival; all others come first. -/
def lv (g : GSem nD τ sig) (_ : Unit) : ℕ :=
  if g.2 = .reg ar0_barrier then 1 else if g.2 = .dma ar0_recv then 2 else if g.2 = .reg barS then 3 else if g.2 = .dma recvS then 4 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) : lv (recvCell c) () = 4 := by dsimp only [lv]; rw [if_neg (by decide), if_neg (by decide), if_neg (by decide), if_pos rfl]
theorem lv_bar (c : Dev nD) : lv (barCell c) () = 3 := by dsimp only [lv]; rw [if_neg (by decide), if_neg (by decide), if_pos rfl]

theorem sendDue_pos {c : Dev nD} {n : ℕ} {g : GSem nD τ sig} {u : Unit} (h : 0 < sendDue c n g u) : g = recvCell (peer c) := by
  unfold sendDue at h
  rw [tallyAt_apply] at h
  by_contra hg
  rw [if_neg (fun h' => hg h'.1)] at h
  exact absurd h (Nat.lt_irrefl 0)

/-- Whatever a device owes for the kernel is owed to the partner's arrival counter or its entry counter. -/
theorem kDue_pos {c : Dev nD} {g : GSem nD τ sig} {u : Unit} (h : 0 < kDue T c g u) : g = recvCell (peer c) ∨ g = barCell (peer c) := by
  by_contra hg
  push Not at hg
  have h1 : sendDue c (own T c).card g u = 0 := by
    by_contra h'; exact hg.1 (sendDue_pos (Nat.pos_of_ne_zero h'))
  have h2 : tallyAt (Ix := Unit) (barCell (peer c)) () 1 g u = 0 := by
    rw [tallyAt_apply, if_neg (fun h' => hg.2 h'.1)]
  have h3 : kDue T c g u = sendDue c (own T c).card g u + tallyAt (Ix := Unit) (barCell (peer c)) () 1 g u := rfl
  omega

theorem kDue_lv {c : Dev nD} {g : GSem nD τ sig} {u : Unit} (h : 0 < kDue T c g u) : u ∈ L g ∧ 2 < lv g u := by
  cases u
  rcases kDue_pos T h with h | h <;> subst h
  · exact ⟨by rw [L_tc]; exact Finset.mem_singleton_self _, by rw [lv_recv]; decide⟩
  · exact ⟨by rw [L_tc]; exact Finset.mem_singleton_self _, by rw [lv_bar]; decide⟩

/-- A device may wait for the entry signal while it owes rows. -/
theorem mayWait_bar (c : Dev nD) (n : ℕ) :
    (levAts L lv : sProp 𝕄) ⊢ MayWait (c : Thread nD τ) (.reg barS) () (sendDue c n) :=
  MayOwe.of_cut (L := L) (lev := lv) 3 (fun p hp => by rw [Finset.mem_singleton.mp hp, L_tc]; exact Finset.mem_singleton_self _)
    (fun g u hg => by rw [sendDue_pos hg, L_tc]; exact Finset.mem_singleton_self _)
    (fun p hp => by rw [Finset.mem_singleton.mp hp]; exact le_of_eq (lv_bar c))
    (fun g u hg => by rw [sendDue_pos hg, lv_recv]; decide)

end Cert.KernelIdeal.Lookup

end

end
-- ==== Proof.Drain.lean ====
module

public import proofs.«01_k».proof.Proof.Protocol

@[expose] public section

set_option maxRecDepth 16384

/-! # Waiting for the rows

The kernel waits for a row's worth on a counter as often as the counter has rows to count. The waits may consume rows in pieces: only after the last one
is it certain that every row is through, and then all of them are in hand. -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

abbrev 𝒱₀ : Variants := Variants.none

/-- A counter's rows. -/
abbrev dut (c : Dev nD) (s : DmaSem sig) : Finset (Fin 1024) := (rd T).duties ((c : Thread nD τ), .dma s) 0

/-- A counter after `n` of its waits: what landed so far is in hand, and credit for the remaining waits. -/
def Drain (c : Dev nD) (s : DmaSem sig) (n : ℕ) : sProp 𝕄 :=
  iprop(∃ S : Finset (Fin 1024), ⌜S ⊆ dut T c s ∧ N * n + (dut T c s \ S).card ≤ N * (dut T c s).card⌝
    ∗ atPos EB ((c : Thread nD τ), .dma s) 0 S (N * n) ∗ bigSep S (fun t => (rd T).payload ((c : Thread nD τ), .dma s) 0 t)
    ∗ cred (tallyAt ((c : Thread nD τ), .dma s) () (N * ((dut T c s).card - n))))

/-- Nothing owed, whatever was waited for. -/
abbrev free (c : Dev nD) : sProp 𝕄 := iprop(∃ W, owes (c : Thread nD τ) (0 : CellTallies nD τ sig Unit) W)

theorem drain_start (c : Dev nD) (s : DmaSem sig) :
    iprop(atPos EB ((c : Thread nD τ), .dma s) 0 ∅ 0 ∗ cred (tallyAt ((c : Thread nD τ), .dma s) () (N * (dut T c s).card)))
      ⊢ (Drain T c s 0 : sProp 𝕄) := by
  unfold Drain
  iintro ⟨Hat, Hc⟩
  iexists (∅ : Finset (Fin 1024))
  isplitr
  · ipureintro
    refine ⟨Finset.empty_subset _, ?_⟩
    rw [Finset.sdiff_empty, Nat.mul_zero, Nat.zero_add]
    exact Nat.le_mul_of_pos_left _ N_pos
  isplitl [Hat]; · rw [Nat.mul_zero]; iexact Hat
  isplitr
  · rw [bigSep_empty]; iempintro
  · rw [Nat.sub_zero]; iexact Hc

/-- One wait. -/
theorem drain_step (c : Dev nD) (s : DmaSem sig) (κ : ℕ) {n : ℕ} (hn : n < (dut T c s).card)
    {sp sp' : Space} {sh sh' : Shape} {e e' : EltTy} {src : Memref sig .tc sp' sh' e'} {dst : Memref sig .tc sp sh e}
    {hsrc : src.view.WordExact} {hdst : dst.view.WordExact} (hN : dst.view.dmaCredit = N)
    {α : Type} (k : PUnit → Prog (TpuEff nD τ sig (Elt F) Λ₀ .tc) α) (Q : α → sProp 𝕄) :
    iprop(cellInv EB (rd T) κ ((c : Thread nD τ), .dma s) ∗ Drain T c s n ∗ free c)
      ⊢ iprop(((Drain T c s (n + 1) ∗ free c) -∗ wp frame (wpE (defs₀ (F := F)) 𝒱₀ c none) Set.univ (k ⟨⟩) Q)
        -∗ wp frame (wpE (defs₀ (F := F)) 𝒱₀ c none) Set.univ (.op (.waitDma2 s src dst hsrc hdst) k) Q) := by
  unfold Drain
  iintro ⟨#HI, ⟨%S, %hS, Hat, Hpay, Hc⟩, %W, HO⟩ Hk
  have hc : (dut T c s).card - n = ((dut T c s).card - (n + 1)) + 1 := by omega
  rw [hc, Nat.mul_succ, ← tallyAt_add]
  ihave Hc' := (cred_add _ _).1 $$ Hc
  icases Hc' with ⟨Hc, Hc1⟩
  iapply (Rounds.wp_wait 𝒱₀ EB (rd T) (c : Thread nD τ) none (κ := κ)
      (wpE_waitDma2_eq (src := src) (dst := dst) (hsrc := hsrc) (hdst := hdst) 𝒱₀ (c : Thread nD τ) none Set.univ) (Set.mem_univ _)
      (cr := Finsupp.single () N) (O := 0) (W := W) {(SemLoc.dma s, ())} (R := 0) (m := N * n) (T := S)
      (by rw [Util.total_single, hN]) (image_single_subset _ () N)) $$ [Hc1 HO Hat]
  · isplitr; · iexact HI
    isplitl [Hc1]; · iexact Hc1
    isplitl [HO]; · iexact HO
    isplitr
    · iapply (Entails.of_eq (MayOwe_zero _ _).symm); iempintro
    iexact Hat
  iintro %S' ⟨%hS', HO, Hat, Hnew⟩
  iapply Hk
  isplitr [HO]
  · iexists S'
    rw [hN] at hS'
    isplitr
    · ipureintro
      refine ⟨hS'.2.1, ?_⟩
      have := hS'.2.2
      rw [expect_dma] at this
      rw [Nat.mul_succ]
      exact this
    isplitl [Hat]; · rw [hN, Nat.mul_succ]; iexact Hat
    isplitl [Hpay Hnew]
    · rw [sep_diff hS'.1]
      isplitl [Hpay]; · iexact Hpay
      iexact Hnew
    iexact Hc
  · iexists _; iexact HO

/-- After the last wait every row is in hand, and the counter is closed at zero. -/
theorem drain_end (c : Dev nD) (s : DmaSem sig) (κ : ℕ) :
    iprop(cellInv EB (rd T) κ ((c : Thread nD τ), .dma s) ∗ Drain T c s (dut T c s).card)
      ⊢ (|={Set.univ}=> (semVal ((c : Thread nD τ), .dma s) 0 ∗ bigSep (dut T c s) (fun t => (rd T).payload ((c : Thread nD τ), .dma s) 0 t)) : sProp 𝕄) := by
  unfold Drain
  iintro ⟨#HI, %S, %hS, Hat, Hpay, -⟩
  have h0 : (dut T c s \ S).card = 0 := by have := hS.2; omega
  have hsub : dut T c s ⊆ S := Finset.sdiff_eq_empty_iff_subset.1 (Finset.card_eq_zero.1 h0)
  have hSe : S = dut T c s := Finset.Subset.antisymm hS.1 hsub
  imod (Rounds.fupd_skip EB (rd T) (g := ((c : Thread nD τ), .dma s)) (κ := κ) (R := 0) (m := N * (dut T c s).card) (T := S) hsub
    (expect_dma T c s).symm (Set.mem_univ κ)) $$ [Hat] with ⟨Hat, -⟩
  · isplitr; · iexact HI
    iexact Hat
  imod (close T κ ((c : Thread nD τ), .dma s)) $$ [Hat] with H0
  · isplitr; · iexact HI
    iexact Hat
  imodintro
  isplitl [H0]; · iexact H0
  rw [← hSe]; iexact Hpay

end Cert.KernelIdeal.Lookup

end

end
-- ==== Proof.DrainLoops.lean ====
module

public import proofs.«01_k».proof.Proof.Drain

@[expose] public section

set_option maxRecDepth 16384

/-! # The two loops that wait for the rows -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

/-- The kernel's buffers, as its launch hands them over: the ids, the table, the result, and the two lists. -/
abbrev A0 : Memref sig .tc .smem S1024 .i32 := Memref.whole cc0_stg0_0
abbrev A1 : Memref sig .tc .hbm S8192x1024 .f32 := Memref.whole main_arg1
abbrev A2 : Memref sig .tc .vmem S1024x1024 .f32 := Memref.whole cc0_stg1_0
abbrev A3 : Memref sig .tc .smem S1024 .i32 := Memref.whole cc0_scratch0
abbrev A4 : Memref sig .tc .smem S1024 .i32 := Memref.whole cc0_scratch1
theorem h0 : A0.IsWhole := Memref.isWhole_whole _
theorem h1 : A1.IsWhole := Memref.isWhole_whole _
theorem h2 : A2.IsWhole := Memref.isWhole_whole _
theorem h3 : A3.IsWhole := Memref.isWhole_whole _
theorem h4 : A4.IsWhole := Memref.isWhole_whole _

/-- A loop without trips hands on what it is given. -/
theorem no_trips {σ : Type} (c : Dev nD) (l : Scf.Loop 32) (hok : l.OK) (h : l.trips = 0) (init : σ)
    (body : Fin l.trips → σ → Prog (TpuEff nD τ sig (Elt F) Λ₀ .tc) σ) (Q : σ → sProp 𝕄) :
    Q init ⊢ wp frame (wpE (defs₀ (F := F)) 𝒱₀ c none) Set.univ (Scf.Loop.for l hok init body) Q := by
  rw [show Scf.Loop.for l hok init body = .ret init from Scf.for_eq_ret _ _ _ hok init body h, wp_ret]
  iintro H; imodintro; iexact H

/-- The loop that waits, once for each token of the device's own, for a local copy and for a departure. -/
theorem run_t6 (c : Dev nD) (κ₁ κ₂ : ℕ) {k : ℕ} (hk : k = (own T c).card) (h8 : k0_chk8 (wd k)) (Q : Unit → sProp 𝕄) :
    iprop(cellInv EB (rd T) κ₁ (copyCell c) ∗ cellInv EB (rd T) κ₂ (sendCell c) ∗ Drain T c copyS 0 ∗ Drain T c sendS 0 ∗ free c)
      ⊢ iprop(((Drain T c copyS k ∗ Drain T c sendS k ∗ free c) -∗ Q ⟨⟩)
        -∗ wp frame (wpE (defs₀ (F := F)) 𝒱₀ c none) Set.univ
          (Scf.Loop.for (k0_t6_loop (wd k)) (k0_t6_ok (wd k) h8) ⟨⟩
            (k0_t6_body A0 h0 A1 h1 A2 h2 A3 h3 A4 h4 cc0_scratch2 cc0_scratch3 cc0_scratch4 (wd k) h8)) Q) := by
  have hk' : k ≤ 1024 := by rw [hk]; exact (Finset.card_le_univ _).trans (by simp)
  have htr := t6_trips hk'
  iintro ⟨#HI₁, #HI₂, HD⟩ HQ
  iapply (Scf.wp_for frame (wpE (defs₀ (F := F)) 𝒱₀ c none) Set.univ _ _ _ (k0_t6_ok (wd k) h8) _ _
    (fun n _ => iprop((cellInv EB (rd T) κ₁ (copyCell c) ∗ cellInv EB (rd T) κ₂ (sendCell c)) ∗ Drain T c copyS n ∗ Drain T c sendS n ∗ free c)) ?_)
  · intro n acc
    have hn : n.val < k := lt_of_lt_of_eq n.isLt htr
    unfold k0_t6_body
    simp only [Prog.lift, Prog.bind_op, Prog.bind_ret, Prog.pure_eq_ret]
    iintro ⟨⟨#HI₁, #HI₂⟩, HC, HS, HO⟩
    iapply (drain_step T c copyS κ₁ (n := n.val) (by unfold dut; rw [duties_copy]; omega) out_credit) $$ [HC HO]
    · isplitr; · iexact HI₁
      isplitl [HC]; · iexact HC
      iexact HO
    iintro ⟨HC, HO⟩
    iapply (drain_step T c sendS κ₂ (n := n.val) (by unfold dut; rw [duties_send]; omega) tab_credit) $$ [HS HO]
    · isplitr; · iexact HI₂
      isplitl [HS]; · iexact HS
      iexact HO
    iintro ⟨HS, HO⟩
    rw [wp_ret]
    imodintro
    isplitr; · isplitr <;> iassumption
    isplitl [HC]; · iexact HC
    isplitl [HS]; · iexact HS
    iexact HO
  · isplitl [HD]
    · isplitr; · isplitr <;> iassumption
      iexact HD
    · iintro %acc ⟨-, H⟩
      iapply HQ
      rw [show Scf.trips _ _ _ = k from htr]
      iexact H

/-- The loop that waits, once for each token of the partner's, for an arrival. -/
theorem run_t8 (c : Dev nD) (κ : ℕ) {k : ℕ} (hk : k = (own T c).card) (h8 : k0_chk8 (wd k)) (Q : Unit → sProp 𝕄) :
    iprop(cellInv EB (rd T) κ (recvCell c) ∗ Drain T c recvS 0 ∗ free c)
      ⊢ iprop(((Drain T c recvS (1024 - k) ∗ free c) -∗ Q ⟨⟩)
        -∗ wp frame (wpE (defs₀ (F := F)) 𝒱₀ c none) Set.univ
          (Scf.Loop.for (k0_t8_loop (wd k)) (k0_t8_ok (wd k) h8) ⟨⟩
            (k0_t8_body A0 h0 A1 h1 A2 h2 A3 h3 A4 h4 cc0_scratch2 cc0_scratch3 cc0_scratch4 (wd k) h8)) Q) := by
  have hk' : k ≤ 1024 := by rw [hk]; exact (Finset.card_le_univ _).trans (by simp)
  have htr := t8_trips hk'
  iintro ⟨#HI, HD⟩ HQ
  iapply (Scf.wp_for frame (wpE (defs₀ (F := F)) 𝒱₀ c none) Set.univ _ _ _ (k0_t8_ok (wd k) h8) _ _
    (fun n _ => iprop(cellInv EB (rd T) κ (recvCell c) ∗ Drain T c recvS n ∗ free c)) ?_)
  · intro n acc
    have hn : n.val < 1024 - k := lt_of_lt_of_eq n.isLt htr
    unfold k0_t8_body
    simp only [Prog.lift, Prog.bind_op, Prog.bind_ret, Prog.pure_eq_ret]
    iintro ⟨#HI, HC, HO⟩
    iapply (drain_step T c recvS κ (n := n.val) (by unfold dut; rw [duties_recv, card_own_peer]; omega) out_credit) $$ [HC HO]
    · isplitr; · iexact HI
      isplitl [HC]; · iexact HC
      iexact HO
    iintro ⟨HC, HO⟩
    rw [wp_ret]
    imodintro
    isplitr; · iassumption
    isplitl [HC]; · iexact HC
    iexact HO
  · isplitl [HD]
    · isplitr; · iassumption
      iexact HD
    · iintro %acc ⟨-, H⟩
      iapply HQ
      rw [show Scf.trips _ _ _ = 1024 - k from htr]
      iexact H

end Cert.KernelIdeal.Lookup

end

end
-- ==== Proof.Compact.lean ====
module

public import proofs.«01_k».proof.Proof.DrainLoops

@[expose] public section

set_option maxRecDepth 16384

/-! # Listing a device's own tokens

The loop that scans 128 tokens and lists those whose row lies on the device: the token, and its row in the device's half. Every token is written at the
end of the lists; the length grows only for the device's own. -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

/-- The ids in scalar memory. -/
abbrev idsPt (c : Dev nD) : sProp 𝕄 := A0.view.loc (c : Thread nD τ) ↦[Finset.univ]{fullShare} T.w c
/-- The list of tokens, and the list of rows. -/
abbrev tokPt (c : Dev nD) (f : S1024.Idx → BitVec 32) : sProp 𝕄 := A3.view.loc (c : Thread nD τ) ↦[Finset.univ]{fullShare} f
abbrev rowPt (c : Dev nD) (f : S1024.Idx → BitVec 32) : sProp 𝕄 := A4.view.loc (c : Thread nD τ) ↦[Finset.univ]{fullShare} f

/-- The lists hold, in order, the device's own tokens among the first `n`. -/
def Listed (c : Dev nD) (n : ℕ) (ft fr : S1024.Idx → BitVec 32) : Prop :=
  ∀ t ∈ own T c, t.val < n → ∀ p : Fin 1024, p.val = cnt (own T c) t.val → ft (ix p) = wd t.val ∧ fr (ix p) = Scalar.subi (T.w c (ix t)) (base c)

def Lists (c : Dev nD) (n : ℕ) : sProp 𝕄 := iprop(∃ ft fr, ⌜Listed T c n ft fr⌝ ∗ tokPt c ft ∗ rowPt c fr)

/-- Before anything is scanned the lists may hold anything. -/
theorem listed_zero (c : Dev nD) (ft fr : S1024.Idx → BitVec 32) : Listed T c 0 ft fr := fun t _ h => absurd h (Nat.not_lt_zero _)

/-- Scanning one more token. -/
theorem listed_succ {c : Dev nD} {t : Fin 1024} {ft fr ft' fr' : S1024.Idx → BitVec 32} (h : Listed T c t.val ft fr) {q : Fin 1024}
    (hq : q.val = cnt (own T c) t.val)
    (ht : ∀ s, ft' (ix s) = if s = q then wd t.val else ft (ix s))
    (hr : ∀ s, fr' (ix s) = if s = q then Scalar.subi (T.w c (ix t)) (base c) else fr (ix s)) : Listed T c (t.val + 1) ft' fr' := by
  intro s hs hlt p hp
  rw [ht, hr]
  by_cases hst : s = t
  · subst hst
    have : p = q := Fin.ext (hp.trans hq.symm)
    rw [if_pos this, if_pos this]
    exact ⟨rfl, rfl⟩
  · have hlt' : s.val < t.val := by
      have : s.val ≠ t.val := fun h' => hst (Fin.ext h')
      omega
    have hc := cnt_lt_of_mem hs hlt'
    have : p ≠ q := fun h' => by rw [h'] at hp; omega
    rw [if_neg this, if_neg this]
    exact h s hs hlt' p hp

/-- How the length grows. -/
theorem length_succ (c : Dev nD) (t : Fin 1024) :
    Scalar.addi (wd (cnt (own T c) t.val))
      (Scalar.extui (Scalar.andi (Scalar.cmpi .sge (Scalar.subi (T.w c (ix t)) (base c)) 0#32)
        (Scalar.cmpi .slt (Scalar.subi (T.w c (ix t)) (base c)) 8192#32)))
      = wd (cnt (own T c) (t.val + 1)) := by
  rw [test_eq c (T.lt c _), cnt_succ]
  by_cases h : Mine c (T.w c (ix t))
  · rw [if_pos h, if_pos ((mem_own T).2 h)]
    exact (BitVec.ofNat_add _ _).symm
  · rw [if_neg h, if_neg (fun h' => h ((mem_own T).1 h'))]
    exact BitVec.add_zero _

/-- The scanning loop. -/
theorem run_t2 (c : Dev nD) (i : Fin k0_t1_loop.trips) (Q : BitVec 32 → sProp 𝕄) :
    iprop(idsPt T c ∗ Lists T c (128 * i.val))
      ⊢ iprop(((idsPt T c ∗ Lists T c (128 * (i.val + 1))) -∗ Q (wd (cnt (own T c) (128 * (i.val + 1)))))
        -∗ wp frame (wpE (defs₀ (F := F)) 𝒱₀ c none) Set.univ
          (Scf.Loop.for (k0_t2_loop i) (k0_t2_ok i) (wd (cnt (own T c) (128 * i.val)))
            (k0_t2_body A0 h0 A1 h1 A2 h2 A3 h3 A4 h4 cc0_scratch2 cc0_scratch3 cc0_scratch4 (base c) i (wd (128 * i.val)))) Q) := by
  have htr := t2_trips i
  have hi := t1_lt i
  iintro H HQ
  iapply (Scf.wp_for frame (wpE (defs₀ (F := F)) 𝒱₀ c none) Set.univ _ _ _ (k0_t2_ok i) _ _
    (fun n a => iprop(⌜a = wd (cnt (own T c) (128 * i.val + n))⌝ ∗ idsPt T c ∗ Lists T c (128 * i.val + n))) ?_)
  · intro j acc
    have hj : j.val < 128 := lt_of_lt_of_eq j.isLt htr
    have hlt : 128 * i.val + j.val < 1024 := by omega
    obtain ⟨t, ht⟩ : ∃ t : Fin 1024, t.val = 128 * i.val + j.val := ⟨⟨_, hlt⟩, rfl⟩
    have hcl := cnt_le (S := own T c) t.val
    obtain ⟨q, hq⟩ : ∃ q : Fin 1024, q.val = cnt (own T c) t.val := ⟨⟨cnt (own T c) t.val, by omega⟩, rfl⟩
    have ho1 : k0_off1 i j = ![t.val] := by rw [off1_eq, ht]
    have ho2 : k0_off2 (wd (cnt (own T c) t.val)) = ![q.val] := by rw [off2_eq (by omega), hq]
    rw [← ht]
    unfold k0_t2_body Lists
    iintro ⟨%hacc, Hi, %ft, %fr, %hL, Ht, Hr⟩
    subst hacc
    simp only [smemLoad, smemLoadElt, Prog.lift, Prog.bind_op, Prog.bind_ret, Prog.pure_eq_ret]
    iapply (wp_assume 𝒱₀ (c : Thread nD τ) none Set.univ (chk1 (by omega)))
    iapply (wp_load_rect 𝒱₀ (c : Thread nD τ) none Set.univ (Finset.subset_univ _)) $$ [Hi]
    · iexact Hi
    iintro Hi
    rw [read_ids (F := F) (T.w c) _ ho1]
    iapply (wp_load_rect 𝒱₀ (c : Thread nD τ) none Set.univ (Finset.subset_univ _)) $$ [Ht]
    · iexact Ht
    iintro Ht
    iapply (wp_store 𝒱₀ (c : Thread nD τ) none Set.univ (Finset.subset_univ _)) $$ [Ht]
    · iexact Ht
    iintro Ht
    iapply (wp_load_rect 𝒱₀ (c : Thread nD τ) none Set.univ (Finset.subset_univ _)) $$ [Hr]
    · iexact Hr
    iintro Hr
    iapply (wp_store 𝒱₀ (c : Thread nD τ) none Set.univ (Finset.subset_univ _)) $$ [Hr]
    · iexact Hr
    iintro Hr
    rw [wp_ret]
    imodintro
    isplitr
    · ipureintro
      rw [length_succ, ht]; rfl
    isplitl [Hi]; · iexact Hi
    iexists _, _
    isplitr
    rotate_left
    · isplitl [Ht]; · iexact Ht
      iexact Hr
    · ipureintro
      rw [show 128 * i.val + (j.val + 1) = t.val + 1 by omega, iv_wd, ← ht]
      refine listed_succ T hL hq (fun s => ?_) (fun s => ?_)
      · exact write_tok (F := F) ft (wd t.val) ho2 s
      · exact write_row (F := F) fr (Scalar.subi (T.w c (ix t)) (base c)) ho2 s
  · isplitl [H]
    · isplitr
      · ipureintro; rfl
      · iexact H
    · iintro %acc ⟨%hacc, H⟩
      rw [show Scf.trips _ _ _ = 128 from htr] at hacc ⊢
      subst hacc
      iapply HQ
      iexact H

end Cert.KernelIdeal.Lookup

end

end
-- ==== Proof.Issue.lean ====
module

public import proofs.«01_k».proof.Proof.Compact

@[expose] public section

set_option maxRecDepth 16384

/-! # Sending and copying the listed rows

The loop that walks a stretch of the lists: at each entry it sends the row to the partner's result and copies it to the device's own. -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

/-- What one token needs: the three duties its row will pay, its row of both results, and two shares of the table's row. -/
def Item (c : Dev nD) (t : Fin 1024) : sProp 𝕄 :=
  iprop(dutyTok EB (recvCell (peer c)) 0 t ∗ dutyTok EB (copyCell c) 0 t ∗ dutyTok EB (sendCell c) 0 t
    ∗ (∃ f, outPt c (outSet t) f) ∗ (∃ f, outPt (peer c) (outSet t) f)
    ∗ tabPt T c (tabSet (srcRow T c t).val) (sendQ t) ∗ tabPt T c (tabSet (srcRow T c t).val) (copyQ t))

/-- The own tokens at position `k` or later. -/
def rem (c : Dev nD) (k : ℕ) : Finset (Fin 1024) := (own T c).filter fun t => k ≤ cnt (own T c) t.val

theorem rem_zero (c : Dev nD) : rem T c 0 = own T c := Finset.filter_true_of_mem fun _ _ => Nat.zero_le _

theorem rem_succ {c : Dev nD} {t : Fin 1024} (ht : t ∈ own T c) : (rem T c (cnt (own T c) t.val)).erase t = rem T c (cnt (own T c) t.val + 1) := by
  ext s
  simp only [rem, Finset.mem_erase, Finset.mem_filter]
  constructor
  · rintro ⟨hne, hs, hle⟩
    refine ⟨hs, ?_⟩
    rcases Nat.lt_or_eq_of_le hle with h | h
    · exact h
    · exact absurd (cnt_inj hs ht h.symm) hne
  · rintro ⟨hs, hle⟩
    refine ⟨?_, hs, by omega⟩
    rintro rfl
    omega

theorem mem_rem {c : Dev nD} {t : Fin 1024} (ht : t ∈ own T c) : t ∈ rem T c (cnt (own T c) t.val) :=
  Finset.mem_filter.2 ⟨ht, le_refl _⟩

/-- After the first `k` listed rows were started: what the others need, what is still owed, and credit for the ones started. -/
def Issue (c : Dev nD) (k : ℕ) : sProp 𝕄 :=
  iprop(bigSep (rem T c k) (Item T c) ∗ (∃ W, owes (c : Thread nD τ) (sendDue c ((own T c).card - k)) W)
    ∗ cred (tallyAt (copyCell c) () (N * k)) ∗ cred (tallyAt (sendCell c) () (N * k)))

/-- What every device knows of the counters it uses. -/
abbrev Know (κ : GSem nD τ sig → ℕ) (c : Dev nD) : sProp 𝕄 :=
  iprop(cellInv EB (rd T) (κ (copyCell c)) (copyCell c) ∗ cellInv EB (rd T) (κ (sendCell c)) (sendCell c)
    ∗ cellInv EB (rd T) (κ (recvCell (peer c))) (recvCell (peer c))
    ∗ reached EB (copyCell c) 0 ∗ reached EB (sendCell c) 0 ∗ reached EB (recvCell (peer c)) 0)

/-- A row written whole is the row of the result. -/
theorem row_done {c d : Dev nD} {t : Fin 1024} (ht : t ∈ own T c) (hd : outVal T d = outVal T c) {off : Fin 2 → ℕ}
    {inb : ∀ a, off a + S1x1024.size a ≤ S1024x1024.size a} {off' : Fin 2 → ℕ} {inb' : ∀ a, off' a + S1x1024.size a ≤ S8192x1024.size a}
    (h : off = ![t.val, 0]) (h' : off' = ![(srcRow T c t).val, 0]) (fo : S1024x1024.Idx → Elt F .f32) :
    ((outRow off inb).view.loc (d : Thread nD τ) ↦[(outRow off inb).view.set]{fullShare}
        ((outRow off inb).view.write (Elt F) fo ((tabRow off' inb').view.read (Elt F) (T.E c)) Finset.univ) : sProp 𝕄)
      ⊢ outPt d (outSet t) (outVal T d) := by
  rw [outRow_set h]
  refine Entails.of_eq (pointsTo_congr fun i hi => ?_)
  rw [hd, outVal_own T ht hi]
  exact copy_row fo (T.E c) h h' hi

/-- The send of one row. -/
theorem send_step (κ : GSem nD τ sig → ℕ) (c : Dev nD) {p : Dev nD} (hp : p = peer c) {t : Fin 1024} (ht : t ∈ own T c) (n : ℕ)
    {off : Fin 2 → ℕ} {inb : ∀ a, off a + S1x1024.size a ≤ S1024x1024.size a} {off' : Fin 2 → ℕ} {inb' : ∀ a, off' a + S1x1024.size a ≤ S8192x1024.size a}
    (h : off = ![t.val, 0]) (h' : off' = ![(srcRow T c t).val, 0]) (fp : S1024x1024.Idx → Elt F .f32) (W : Waits sig Unit)
    {hsc : (outRow off inb).view.ref.isScScratch = false} {h1 : (tabRow off' inb').view.WordExact} {h2 : (outRow off inb).view.WordExact}
    {hty : DmaTarget.Typed .hbm (.dma recvS) (.remote (Dev.tc p : Thread nD τ) (outRow off inb) (.dma sendS) hsc)}
    {α : Type} (k : PUnit → Prog (TpuEff nD τ sig (Elt F) Λ₀ .tc) α) (Q : α → sProp 𝕄) :
    iprop(cellInv EB (rd T) (κ (sendCell c)) (sendCell c) ∗ cellInv EB (rd T) (κ (recvCell (peer c))) (recvCell (peer c))
        ∗ reached EB (sendCell c) 0 ∗ reached EB (recvCell (peer c)) 0
        ∗ dutyTok EB (recvCell (peer c)) 0 t ∗ dutyTok EB (sendCell c) 0 t ∗ outPt (peer c) (outSet t) fp
        ∗ tabPt T c (tabSet (srcRow T c t).val) (sendQ t) ∗ owes (c : Thread nD τ) (sendDue c (n + 1)) W)
      ⊢ iprop(((cred (tallyAt (sendCell c) () N) ∗ owes (c : Thread nD τ) (sendDue c n) W)
          -∗ wp frame (wpE (defs₀ (F := F)) 𝒱₀ c none) Set.univ (k ⟨⟩) Q)
        -∗ wp frame (wpE (defs₀ (F := F)) 𝒱₀ c none) Set.univ
          (.op (.enqueueDma (tabRow off' inb') (.remote (Dev.tc p : Thread nD τ) (outRow off inb) (.dma sendS) hsc) (.dma recvS) h1 h2 hty) k) Q) := by
  subst hp
  iintro ⟨#His, #Hir, #Hrs, #Hrr, Hdr, Hds, Hp, Ht, HO⟩ Hk
  iapply (Rounds.wp_send_pointsTo 𝒱₀ EB (rd T) (c : Thread nD τ) none (c' := (peer c : Thread nD τ)) (src := tabRow off' inb') (dst := outRow off inb)
    (sS := .dma sendS) (sem := .dma recvS) (q := sendQ t) (fs := T.E c) (κ₁ := κ (sendCell c)) (κ₂ := κ (recvCell (peer c))) (r₁ := 0) (r₂ := 0)
    (d₁ := t) (d₂ := t) (fd := fp) (by rw [duties_send]; exact ht) (by rw [duties_recv, peer_peer]; exact ht) () () N out_credit
    (amount_dma T c sendS t) (amount_dma T (peer c) recvS t) (sendDue c n) (sendDue_succ c n) (W := W)
    (by rw [payload_send, tabRow_set h']; exact Entails.refl)
    (by rw [payload_recv]; exact row_done T ht (outVal_peer T c) h h' fp)) $$ [Hdr Hds Hp Ht HO]
  · isplitr; · iexact His
    isplitr; · iexact Hir
    isplitl [Ht]; · rw [tabRow_set h']; iexact Ht
    isplitl [Hp]; · rw [outRow_set h]; iexact Hp
    isplitl [HO]; · iexact HO
    isplitl [Hds]; · iexact Hds
    isplitr; · iexact Hrs
    isplitl [Hdr]; · iexact Hdr
    iexact Hrr
  · iexact Hk

/-- The local copy of one row. -/
theorem copy_step (κ : GSem nD τ sig → ℕ) (c : Dev nD) {t : Fin 1024} (ht : t ∈ own T c)
    {off : Fin 2 → ℕ} {inb : ∀ a, off a + S1x1024.size a ≤ S1024x1024.size a} {off' : Fin 2 → ℕ} {inb' : ∀ a, off' a + S1x1024.size a ≤ S8192x1024.size a}
    (h : off = ![t.val, 0]) (h' : off' = ![(srcRow T c t).val, 0]) (fo : S1024x1024.Idx → Elt F .f32)
    {h1 : (tabRow off' inb').view.WordExact} {h2 : (outRow off inb).view.WordExact}
    {hty : DmaTarget.Typed .hbm (.dma copyS) (.here (outRow off inb) : DmaTarget nD τ sig .tc .vmem S1x1024 .f32)}
    {α : Type} (k : PUnit → Prog (TpuEff nD τ sig (Elt F) Λ₀ .tc) α) (Q : α → sProp 𝕄) :
    iprop(cellInv EB (rd T) (κ (copyCell c)) (copyCell c) ∗ reached EB (copyCell c) 0
        ∗ dutyTok EB (copyCell c) 0 t ∗ outPt c (outSet t) fo ∗ tabPt T c (tabSet (srcRow T c t).val) (copyQ t))
      ⊢ iprop((cred (tallyAt (copyCell c) () N) -∗ wp frame (wpE (defs₀ (F := F)) 𝒱₀ c none) Set.univ (k ⟨⟩) Q)
        -∗ wp frame (wpE (defs₀ (F := F)) 𝒱₀ c none) Set.univ
          (.op (.enqueueDma (tabRow off' inb') (.here (outRow off inb)) (.dma copyS) h1 h2 hty) k) Q) := by
  iintro ⟨#Hi, #Hr, Hd, Ho, Ht⟩ Hk
  iapply (Rounds.wp_copy_pointsTo 𝒱₀ EB (rd T) (c : Thread nD τ) none (src := tabRow off' inb') (dst := outRow off inb)
    (sem := .dma copyS) (q := copyQ t) (fs := T.E c) (fd := fo) (r := 0) (d := t) (κ := κ (copyCell c)) (by rw [duties_copy]; exact ht) () N out_credit
    (amount_dma T c copyS t)
    (by rw [payload_copy, tabRow_set h']; exact sep_mono_left (row_done T ht rfl h h' fo))) $$ [Hd Ho Ht]
  · isplitr; · iexact Hi
    isplitl [Ht]; · rw [tabRow_set h']; iexact Ht
    isplitl [Ho]; · rw [outRow_set h]; iexact Ho
    isplitl [Hd]; · iexact Hd
    iexact Hr
  · iexact Hk

theorem cred_one_more (g : GSem nD τ sig) (n : ℕ) :
    iprop(cred (tallyAt g () (N * n)) ∗ cred (tallyAt g () N)) ⊢ (cred (tallyAt g () (N * (n + 1))) : sProp 𝕄) := by
  rw [Nat.mul_succ, ← tallyAt_add]
  exact (cred_add _ _).2

/-- The loop that starts the rows listed between positions `a` and `b`. -/
theorem run_t4 (κ : GSem nD τ sig → ℕ) (c : Dev nD) {n m : ℕ} (hnm : n ≤ m) (hm : m ≤ 1024)
    (hw : k0_chk3 (wd (cnt (own T c) n)) (wd (cnt (own T c) m))) (Q : Unit → sProp 𝕄) :
    iprop(Know T κ c ∗ Lists T c m ∗ Issue T c (cnt (own T c) n))
      ⊢ iprop(((Lists T c m ∗ Issue T c (cnt (own T c) m)) -∗ Q ⟨⟩)
        -∗ wp frame (wpE (defs₀ (F := F)) 𝒱₀ c none) Set.univ
          (Scf.Loop.for (k0_t4_loop (wd (cnt (own T c) n)) (wd (cnt (own T c) m))) (k0_t4_ok (wd (cnt (own T c) n)) (wd (cnt (own T c) m)) hw) ⟨⟩
            (k0_t4_body A0 h0 A1 h1 A2 h2 A3 h3 A4 h4 cc0_scratch2 cc0_scratch3 cc0_scratch4 c (wd (cnt (own T c) n)) (wd (cnt (own T c) m)) hw)) Q) := by
  have hab : cnt (own T c) n ≤ cnt (own T c) m := cnt_mono hnm
  have hb : cnt (own T c) m ≤ 1024 := (cnt_le _).trans hm
  have htr := t4_trips hab hb
  iintro ⟨#HK, HL, HI⟩ HQ
  iapply (Scf.wp_for frame (wpE (defs₀ (F := F)) 𝒱₀ c none) Set.univ _ _ _ (k0_t4_ok _ _ hw) _ _
    (fun k _ => iprop(Know T κ c ∗ Lists T c m ∗ Issue T c (cnt (own T c) n + k))) ?_)
  · intro k acc
    have hk : k.val < cnt (own T c) m - cnt (own T c) n := lt_of_lt_of_eq k.isLt htr
    obtain ⟨t, ht, htm, hct⟩ := exists_cnt (S := own T c) hm (k := cnt (own T c) n + k.val) (by omega)
    obtain ⟨q, hq⟩ : ∃ q : Fin 1024, q.val = cnt (own T c) t.val := ⟨⟨cnt (own T c) t.val, by omega⟩, rfl⟩
    have ho5 : k0_off5 (wd (cnt (own T c) n)) (wd (cnt (own T c) m)) k = ![q.val] := by rw [off5_eq hab hb, hq, hct]
    have hcard : cnt (own T c) t.val < (own T c).card := by
      have := cnt_lt_of_mem ht t.isLt
      rwa [cnt_all] at this
    have hrow : (Scalar.subi (T.w c (ix t)) (base c)).toNat = (srcRow T c t).val := sub_base_row c ((mem_own T).1 ht)
    have hdue : (own T c).card - cnt (own T c) t.val = ((own T c).card - (cnt (own T c) t.val + 1)) + 1 := by omega
    have hor : k0_off6 (wd t.val) = ![t.val, 0] := off6_eq t.isLt
    have hor8 : k0_off8 (wd t.val) = ![t.val, 0] := off8_eq t.isLt
    have hsr : k0_off7 (Scalar.subi (T.w c (ix t)) (base c)) = ![(srcRow T c t).val, 0] := by rw [off7_eq, hrow]
    rw [← Nat.add_assoc, ← hct]
    unfold k0_t4_body
    iintro ⟨#HK, HL, HI⟩
    icases HK with ⟨#Hic, #His, #Hir, #Hrc, #Hrs, #Hrr⟩
    unfold Lists Issue
    icases HL with ⟨%ft, %fr, %hL, Ht, Hr⟩
    obtain ⟨hft, hfr⟩ := hL t ht htm q hq
    rw [sep_erase (mem_rem T ht), rem_succ T ht, hdue]
    icases HI with ⟨⟨Hit, Hrest⟩, ⟨%W, HO⟩, Hcc, Hcs⟩
    unfold Item
    icases Hit with ⟨Hdr, Hdc, Hds, ⟨%fo, Hout⟩, ⟨%fp, Hpout⟩, Hts, Htc⟩
    simp only [smemLoad, smemLoadElt, Prog.lift, Prog.bind_op, Prog.bind_ret, Prog.pure_eq_ret]
    iapply (wp_load_rect 𝒱₀ (c : Thread nD τ) none Set.univ (Finset.subset_univ _)) $$ [Ht]
    · iexact Ht
    iintro Ht
    rw [read_tok (F := F) ft _ ho5, hft]
    iapply (wp_assume 𝒱₀ (c : Thread nD τ) none Set.univ (chk4 t.isLt))
    iapply (wp_load_rect 𝒱₀ (c : Thread nD τ) none Set.univ (Finset.subset_univ _)) $$ [Hr]
    · iexact Hr
    iintro Hr
    rw [read_row (F := F) fr _ ho5, hfr]
    iapply (wp_assume 𝒱₀ (c : Thread nD τ) none Set.univ (chk5 (sub_base_lt c ((mem_own T).1 ht))))
    iapply (send_step T κ c (dev2_eq c (k0_dev2_lt c)) ht ((own T c).card - (cnt (own T c) t.val + 1)) hor hsr fp W) $$ [Hdr Hds Hpout Hts HO]
    · isplitr; · iexact His
      isplitr; · iexact Hir
      isplitr; · iexact Hrs
      isplitr; · iexact Hrr
      isplitl [Hdr]; · iexact Hdr
      isplitl [Hds]; · iexact Hds
      isplitl [Hpout]; · iexact Hpout
      isplitl [Hts]; · iexact Hts
      iexact HO
    iintro ⟨Hs1, HO⟩
    iapply (copy_step T κ c ht hor8 hsr fo) $$ [Hdc Hout Htc]
    · isplitr; · iexact Hic
      isplitr; · iexact Hrc
      isplitl [Hdc]; · iexact Hdc
      isplitl [Hout]; · iexact Hout
      iexact Htc
    iintro Hc1
    rw [wp_ret]
    imodintro
    isplitr
    · isplitr; · iexact Hic
      isplitr; · iexact His
      isplitr; · iexact Hir
      isplitr; · iexact Hrc
      isplitr; · iexact Hrs
      iexact Hrr
    isplitl [Ht Hr]
    · iexists ft, fr
      isplitr; · ipureintro; exact hL
      isplitl [Ht]; · iexact Ht
      iexact Hr
    isplitl [Hrest]; · iexact Hrest
    isplitl [HO]; · iexists W; iexact HO
    isplitl [Hcc Hc1]
    · iapply (cred_one_more (copyCell c) (cnt (own T c) t.val))
      isplitl [Hcc]; · iexact Hcc
      iexact Hc1
    · iapply (cred_one_more (sendCell c) (cnt (own T c) t.val))
      isplitl [Hcs]; · iexact Hcs
      iexact Hs1
  · isplitl [HL HI]
    · isplitr; · iexact HK
      isplitl [HL]; · iexact HL
      iexact HI
    · iintro %acc ⟨-, HL, HI⟩
      rw [show Scf.trips _ _ _ = cnt (own T c) m - cnt (own T c) n from htr, Nat.add_sub_cancel' hab]
      iapply HQ
      isplitl [HL]; · iexact HL
      iexact HI

end Cert.KernelIdeal.Lookup

end

end
-- ==== Proof.Scan.lean ====
module

public import proofs.«01_k».proof.Proof.Issue

@[expose] public section

set_option maxRecDepth 16384

/-! # The scan of all tokens -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

/-- The loop over the eight stretches of 128 tokens: after it every own token's row was started. -/
theorem run_t1 (κ : GSem nD τ sig → ℕ) (c : Dev nD) (Q : BitVec 32 → sProp 𝕄) :
    iprop(Know T κ c ∗ idsPt T c ∗ Lists T c 0 ∗ Issue T c 0)
      ⊢ iprop(((idsPt T c ∗ Lists T c 1024 ∗ Issue T c (own T c).card) -∗ Q (wd (own T c).card))
        -∗ wp frame (wpE (defs₀ (F := F)) 𝒱₀ c none) Set.univ
          (Scf.Loop.for k0_t1_loop k0_t1_ok 0#32
            (k0_t1_body A0 h0 A1 h1 A2 h2 A3 h3 A4 h4 cc0_scratch2 cc0_scratch3 cc0_scratch4 c (base c))) Q) := by
  iintro ⟨#HK, H⟩ HQ
  iapply (Scf.wp_for frame (wpE (defs₀ (F := F)) 𝒱₀ c none) Set.univ _ _ _ k0_t1_ok _ _
    (fun n a => iprop(⌜a = wd (cnt (own T c) (128 * n))⌝ ∗ Know T κ c ∗ idsPt T c ∗ Lists T c (128 * n) ∗ Issue T c (cnt (own T c) (128 * n)))) ?_)
  · intro i acc
    have hi := t1_lt i
    have hab : cnt (own T c) (128 * i.val) ≤ cnt (own T c) (128 * (i.val + 1)) := cnt_mono (by omega)
    have hb : cnt (own T c) (128 * (i.val + 1)) ≤ 1024 := (cnt_le _).trans (by omega)
    have hw := chk3 hab hb
    unfold k0_t1_body
    iintro ⟨%hacc, #HK, Hi, HL, HI⟩
    subst hacc
    dsimp only
    rw [v31_eq' i.val, wp_bind]
    iapply (run_t2 T c i) $$ [Hi HL]
    · isplitl [Hi]; · iexact Hi
      iexact HL
    iintro ⟨Hi, HL⟩
    rw [wp_bind]
    iapply (no_trips c _ (k0_t3_ok i) (t3_trips i))
    simp only [Prog.lift, Prog.bind_op, Prog.bind_ret, Prog.pure_eq_ret]
    iapply (wp_assume 𝒱₀ (c : Thread nD τ) none Set.univ hw)
    rw [wp_bind]
    iapply (run_t4 T κ c (n := 128 * i.val) (m := 128 * (i.val + 1)) (by omega) (by omega) hw) $$ [HL HI]
    · isplitr; · iexact HK
      isplitl [HL]; · iexact HL
      iexact HI
    iintro ⟨HL, HI⟩
    rw [wp_bind]
    iapply (no_trips c _ (k0_t5_ok _ _ hw) (t5_trips hab hb))
    rw [wp_ret]
    imodintro
    isplitr; · ipureintro; rfl
    isplitr; · iexact HK
    isplitl [Hi]; · iexact Hi
    isplitl [HL]; · iexact HL
    iexact HI
  · isplitl [H]
    · isplitr
      · ipureintro; exact congrArg wd cnt_zero.symm
      isplitr; · iexact HK
      rw [Nat.mul_zero, cnt_zero]
      iexact H
    · iintro %acc ⟨%hacc, -, H⟩
      rw [show Scf.trips _ _ _ = 8 from t1_trips] at hacc ⊢
      rw [show 128 * 8 = 1024 from rfl, cnt_all] at hacc ⊢
      subst hacc
      iapply HQ
      iexact H

end Cert.KernelIdeal.Lookup

end

end
-- ==== Proof.Pieces.lean ====
module

public import proofs.«01_k».proof.Proof.Scan

@[expose] public section

set_option maxRecDepth 16384

/-! # The table and the result, cut into the rows that move -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

/-- A separating conjunction over a set, weakened in each part. -/
theorem sep_weaken {M I : Type} [URA M] {s : Finset I} {Φ Ψ : I → sProp M} (h : ∀ i ∈ s, Φ i ⊢ Ψ i) : bigSep s Φ ⊢ bigSep s Ψ := bigSep_mono h

theorem sep_assoc_eq {M : Type} [URA M] (P Q R : sProp M) : iprop((P ∗ Q) ∗ R) = iprop(P ∗ Q ∗ R) :=
  BI.Entails.antisymm (show iprop((P ∗ Q) ∗ R) ⊢ iprop(P ∗ Q ∗ R) from by iintro ⟨⟨H1, H2⟩, H3⟩; isplitl [H1]; (iexact H1); isplitl [H2]; (iexact H2); iexact H3)
    (show iprop(P ∗ Q ∗ R) ⊢ iprop((P ∗ Q) ∗ R) from by iintro ⟨H1, H2, H3⟩; isplitr [H3]; (isplitl [H1]; (iexact H1); iexact H2); iexact H3)

/-! ## The table -/

/-- The table's share for one token's transfer, but for the token's row. -/
def rowsLeft (c : Dev nD) (q : Fin 1024 → PosShare TreeShare) : sProp 𝕄 :=
  iprop((bigSep (own T c) fun t => tabPt T c (Finset.univ \ tabSet (srcRow T c t).val) (q t))
    ∗ bigSep (Finset.univ \ own T c) fun t => tabPt T c Finset.univ (q t))

/-- A share of the table dealt out to the tokens, each own token's part cut at its row. -/
theorem tab_half (c : Dev nD) (q : PosShare TreeShare) :
    (tabPt T c Finset.univ q : sProp 𝕄)
      = iprop((bigSep (own T c) fun t => tabPt T c (tabSet (srcRow T c t).val) (ShareLeaves.leaf 10 q t)) ∗ rowsLeft T c (fun t => ShareLeaves.leaf 10 q t)) := by
  unfold rowsLeft
  have hl : (tabPt T c Finset.univ q : sProp 𝕄) = bigSep (Finset.univ : Finset (Fin 1024)) fun t => tabPt T c Finset.univ (ShareLeaves.leaf 10 q t) :=
    ShareLeaves.pointsTo_leaves _ _ 10 q
  refine hl.trans ?_
  refine (sep_diff (Finset.subset_univ (own T c)) _).trans ?_
  rw [bigSep_congr (s := own T c) (Ψ := fun t => iprop(tabPt T c (tabSet (srcRow T c t).val) (ShareLeaves.leaf 10 q t)
      ∗ tabPt T c (Finset.univ \ tabSet (srcRow T c t).val) (ShareLeaves.leaf 10 q t)))
      (fun t _ => BI.Entails.antisymm (pointsTo_split_subset (Finset.subset_univ _)).1 (pointsTo_split_subset (Finset.subset_univ _)).2), sep_both]
  exact sep_assoc_eq _ _ _

/-- The whole table, cut into the rows the sends and the copies read, and the rest. -/
theorem tab_cut (c : Dev nD) :
    (tabPt T c Finset.univ fullShare : sProp 𝕄)
      = iprop(((bigSep (own T c) fun t => tabPt T c (tabSet (srcRow T c t).val) (sendQ t)) ∗ rowsLeft T c sendQ)
        ∗ ((bigSep (own T c) fun t => tabPt T c (tabSet (srcRow T c t).val) (copyQ t)) ∗ rowsLeft T c copyQ)) := by
  refine (BI.Entails.antisymm (pointsTo_share (PosShare.mem_left_op_right fullShare)).1 (pointsTo_share (PosShare.mem_left_op_right fullShare)).2).trans ?_
  exact congrArg₂ (fun a b => iprop(a ∗ b)) (tab_half T c _) (tab_half T c _)

/-! ## The result -/

/-- Holding the whole result is holding its rows. -/
theorem out_rows (c : Dev nD) (f : S1024x1024.Idx → Elt F .f32) :
    (outPt c Finset.univ f : sProp 𝕄) = iprop((bigSep (own T c) fun t => outPt c (outSet t) f) ∗ bigSep (own T (peer c)) fun t => outPt c (outSet t) f) := by
  have h : (outPt c Finset.univ f : sProp 𝕄) = bigSep Finset.univ fun t => outPt c (outSet t) f := by
    refine Eq.trans ?_ (pointsTo_biUnion (ℓ := (Memref.whole cc0_stg1_0 : Memref sig .tc .vmem S1024x1024 .f32).view.loc (c : Thread nD τ))
      (q := fullShare) (f := f) (Finset.univ : Finset (Fin 1024)) outSet (fun s _ t _ hst => outSet_disjoint hst))
    refine congrArg (fun S => outPt c S f) ?_
    ext i
    simp only [Finset.mem_biUnion, Finset.mem_univ, true_and, true_iff]
    exact ⟨⟨(i 0).val, (i 0).isLt⟩, mem_outSet.2 rfl⟩
  refine h.trans ?_
  rw [← own_union T c]
  exact sep_union (own_disjoint T c) _

/-- Before the kernel the rows may hold anything. -/
theorem out_open (c : Dev nD) (f : S1024x1024.Idx → Elt F .f32) :
    (outPt c Finset.univ f : sProp 𝕄) ⊢ iprop((bigSep (own T c) fun t => iprop(∃ f, outPt c (outSet t) f)) ∗ bigSep (own T (peer c)) fun t => iprop(∃ f, outPt c (outSet t) f)) := by
  rw [out_rows T c f]
  iintro ⟨H1, H2⟩
  isplitl [H1]
  · iapply (sep_weaken (s := own T c) (Φ := fun t => outPt c (outSet t) f) (Ψ := fun t => iprop(∃ f, outPt c (outSet t) f)) fun t _ => (by iintro H; iexists f; iexact H)); iexact H1
  · iapply (sep_weaken (s := own T (peer c)) (Φ := fun t => outPt c (outSet t) f) (Ψ := fun t => iprop(∃ f, outPt c (outSet t) f)) fun t _ => (by iintro H; iexists f; iexact H)); iexact H2

end Cert.KernelIdeal.Lookup

end

end
-- ==== Proof.Body.lean ====
module

public import proofs.«01_k».proof.Proof.Pieces

@[expose] public section

set_option maxRecDepth 16384

/-! # The kernel on one device -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

/-- The counters a device uses, and that those it pays first are open. -/
abbrev Opened (κ : GSem nD τ sig → ℕ) (c : Dev nD) : sProp 𝕄 :=
  iprop(cellInv EB (rd T) (κ (barCell c)) (barCell c) ∗ cellInv EB (rd T) (κ (barCell (peer c))) (barCell (peer c))
    ∗ cellInv EB (rd T) (κ (copyCell c)) (copyCell c) ∗ cellInv EB (rd T) (κ (sendCell c)) (sendCell c)
    ∗ cellInv EB (rd T) (κ (recvCell c)) (recvCell c) ∗ cellInv EB (rd T) (κ (recvCell (peer c))) (recvCell (peer c))
    ∗ reached EB (barCell (peer c)) 0 ∗ reached EB (copyCell c) 0 ∗ reached EB (sendCell c) 0 ∗ reached EB (recvCell c) 0)

/-- What a device holds of the counters when its kernel starts. -/
def Start (c : Dev nD) : sProp 𝕄 :=
  iprop((atPos EB (barCell c) 0 ∅ 0 ∗ atPos EB (copyCell c) 0 ∅ 0 ∗ atPos EB (sendCell c) 0 ∅ 0 ∗ atPos EB (recvCell c) 0 ∅ 0)
    ∗ dutyTok EB (barCell (peer c)) 0 0
    ∗ ((bigSep (own T c) fun t => dutyTok EB (recvCell (peer c)) 0 t) ∗ (bigSep (own T c) fun t => dutyTok EB (copyCell c) 0 t)
      ∗ bigSep (own T c) fun t => dutyTok EB (sendCell c) 0 t)
    ∗ cred (tallyAt (barCell c) () 1) ∗ cred (tallyAt (recvCell c) () (N * (own T (peer c)).card))
    ∗ ∃ W, owes (c : Thread nD τ) (kDue T c) W)

/-- The buffers when the kernel starts, and when it is done. -/
def bufs₀ (c : Dev nD) : sProp 𝕄 :=
  iprop(idsPt T c ∗ (∃ f, tokPt c f) ∗ (∃ f, rowPt c f) ∗ (∃ f, outPt c Finset.univ f) ∗ tabPt T c Finset.univ fullShare)
def bufs₁ (c : Dev nD) : sProp 𝕄 :=
  iprop(idsPt T c ∗ (∃ f, tokPt c f) ∗ (∃ f, rowPt c f) ∗ outPt c Finset.univ (outVal T c) ∗ tabPt T c Finset.univ fullShare)

/-- The counters when the kernel is done. -/
def zeros (c : Dev nD) : sProp 𝕄 := iprop(semVal (barCell c) 0 ∗ semVal (copyCell c) 0 ∗ semVal (sendCell c) 0 ∗ semVal (recvCell c) 0)

theorem dut_copy (c : Dev nD) : dut T c copyS = own T c := duties_copy T c
theorem dut_send (c : Dev nD) : dut T c sendS = own T c := duties_send T c
theorem dut_recv (c : Dev nD) : dut T c recvS = own T (peer c) := duties_recv T c

/-- The rows a device needs, gathered token by token. -/
theorem issue_start (c : Dev nD) (W : Waits sig Unit) :
    iprop(((bigSep (own T c) fun t => dutyTok EB (recvCell (peer c)) 0 t) ∗ (bigSep (own T c) fun t => dutyTok EB (copyCell c) 0 t)
        ∗ bigSep (own T c) fun t => dutyTok EB (sendCell c) 0 t)
      ∗ (bigSep (own T c) fun t => iprop(∃ f, outPt c (outSet t) f)) ∗ (bigSep (own T c) fun t => iprop(∃ f, outPt (peer c) (outSet t) f))
      ∗ (bigSep (own T c) fun t => tabPt T c (tabSet (srcRow T c t).val) (sendQ t)) ∗ (bigSep (own T c) fun t => tabPt T c (tabSet (srcRow T c t).val) (copyQ t))
      ∗ owes (c : Thread nD τ) (sendDue c (own T c).card) W) ⊢ (Issue T c 0 : sProp 𝕄) := by
  unfold Issue Item
  rw [rem_zero, sep_both, sep_both, sep_both, sep_both, sep_both, sep_both, Nat.mul_zero, tallyAt_zero, tallyAt_zero, cred_zero, Nat.sub_zero]
  iintro ⟨⟨H1, H2, H3⟩, H4, H5, H6, H7, H8⟩
  isplitr [H8]
  · isplitl [H1]; · iexact H1
    isplitl [H2]; · iexact H2
    isplitl [H3]; · iexact H3
    isplitl [H4]; · iexact H4
    isplitl [H5]; · iexact H5
    isplitl [H6]; · iexact H6
    iexact H7
  isplitl [H8]; · iexists W; iexact H8
  isplitr <;> iempintro

/-- After all rows were started: nothing is owed, and there is credit for each. -/
theorem issue_end (c : Dev nD) : (Issue T c (own T c).card : sProp 𝕄)
    ⊢ iprop(free c ∗ cred (tallyAt (copyCell c) () (N * (dut T c copyS).card)) ∗ cred (tallyAt (sendCell c) () (N * (dut T c sendS).card))) := by
  unfold Issue free
  rw [Nat.sub_self, sendDue_zero, dut_copy, dut_send]
  iintro ⟨-, H2, H3, H4⟩
  isplitl [H2]; · iexact H2
  isplitl [H3]; · iexact H3
  iexact H4

/-- What landed makes up the result, and the table's shares come together again. -/
theorem rejoin (c : Dev nD) :
    iprop((bigSep (own T c) (copyPay T c)) ∗ (bigSep (own T c) (sendPay T c)) ∗ (bigSep (own T (peer c)) (recvPay T c))
      ∗ rowsLeft T c sendQ ∗ rowsLeft T c copyQ) ⊢ (iprop(outPt c Finset.univ (outVal T c) ∗ tabPt T c Finset.univ fullShare) : sProp 𝕄) := by
  unfold copyPay sendPay recvPay
  rw [sep_both, tab_cut, out_rows T c]
  iintro ⟨⟨H1, H2⟩, H3, H4, H5, H6⟩
  isplitl [H1 H4]
  · isplitl [H1]; · iexact H1
    iexact H4
  isplitl [H3 H5]
  · isplitl [H3]; · iexact H3
    iexact H5
  · isplitl [H2]; · iexact H2
    iexact H6

/-- All payloads of a counter are its tokens' rows. -/
theorem pays_copy (c : Dev nD) : (bigSep (dut T c copyS) (fun t => (rd T).payload ((c : Thread nD τ), .dma copyS) 0 t) : sProp 𝕄) = bigSep (own T c) (copyPay T c) := by
  rw [dut_copy]; exact bigSep_congr fun t _ => payload_copy T c t
theorem pays_send (c : Dev nD) : (bigSep (dut T c sendS) (fun t => (rd T).payload ((c : Thread nD τ), .dma sendS) 0 t) : sProp 𝕄) = bigSep (own T c) (sendPay T c) := by
  rw [dut_send]; exact bigSep_congr fun t _ => payload_send T c t
theorem pays_recv (c : Dev nD) : (bigSep (dut T c recvS) (fun t => (rd T).payload ((c : Thread nD τ), .dma recvS) 0 t) : sProp 𝕄) = bigSep (own T (peer c)) (recvPay T c) := by
  rw [dut_recv]; exact bigSep_congr fun t _ => payload_recv T c t

/-- The whole kernel on one device: started with its counters open, it leaves the result, the table and the ids as claimed, and every counter at zero. -/
theorem run_body (κ : GSem nD τ sig → ℕ) (c : Dev nD) (Q : PUnit → sProp 𝕄) :
    iprop(Opened T κ c ∗ levAts L lv ∗ Start T c ∗ bufs₀ T c)
      ⊢ iprop(((bufs₁ T c ∗ zeros c ∗ free c) -∗ Q ⟨⟩)
        -∗ wp frame (wpE (defs₀ (F := F)) 𝒱₀ c none) Set.univ
          (cc0_body A0 h0 A1 h1 A2 h2 A3 h3 A4 h4 cc0_scratch2 cc0_scratch3 cc0_scratch4) Q) := by
  have hk : (own T c).card ≤ 1024 := by rw [← cnt_all]; exact cnt_le _
  iintro ⟨⟨#Hib, #Hibp, #Hic, #His, #Hir, #Hirp, #Hrb, #Hrc, #Hrs, #Hrr⟩, #Hlv, HS, HB⟩ HQ
  unfold Start bufs₀
  icases HS with ⟨⟨Hab, Hac, Has, Har⟩, Hdb, Hd, Hcb, Hcr, %W, HO⟩
  icases HB with ⟨Hi, ⟨%ft, Ht⟩, ⟨%fr, Hr⟩, ⟨%fo, Ho⟩, HE⟩
  ihave Ho' := (out_open T c fo) $$ Ho
  icases Ho' with ⟨Ho, Hop⟩
  ihave HE' := (Entails.of_eq (tab_cut T c)) $$ HE
  icases HE' with ⟨⟨Hes, Hls⟩, Hec, Hlc⟩
  rw [cc0_body_eq_skeleton]
  unfold cc0_body_skel
  rw [k0_part1_eq_skeleton]
  unfold k0_part1_skel
  simp only [Prog.lift, semSignalWord, semWaitWord, Prog.bind_op, Prog.bind_ret, Prog.bind_assoc, Prog.pure_eq_ret, wp_deviceId, base_eq]
  rw [dev1_eq c (k0_dev1_lt c)]
  iapply (Rounds.wp_signal 𝒱₀ EB (rd T) (c : Thread nD τ) none (dst := (peer c : Thread nD τ)) (sem := barS) (r := 0) (d := 0) (κ := κ (barCell (peer c)))
    (by rw [duties_bar]; exact Finset.mem_singleton_self _) (amount_bar T (peer c) 0) () (sendDue c (own T c).card) rfl (W := W)) $$ [HO Hdb Hop]
  · isplitr; · iexact Hibp
    isplitl [HO]; · iexact HO
    isplitl [Hdb]; · iexact Hdb
    isplitl [Hop]
    · rw [payload_bar]
      unfold barPay
      rw [peer_peer]
      isplitl [Hop]; · iexact Hop
      iexact Hrr
    iexact Hrb
  iintro HO
  iapply (Rounds.wp_wait_rest_token 𝒱₀ EB (rd T) (c : Thread nD τ) none (sm := .reg barS) (k' := 1) (κ := κ (barCell c)) (wpE_semWait_eq 𝒱₀ (c : Thread nD τ) none Set.univ)
    (Set.mem_univ _) () (O := sendDue c (own T c).card) (W := W) (R := 0) (m := 0) (T := ∅) (by rw [expect_bar])) $$ [Hcb HO Hab]
  · isplitr; · iexact Hib
    isplitl [Hcb]; · iexact Hcb
    isplitl [HO]; · iexact HO
    isplitr
    · iapply (mayWait_bar c (own T c).card); iexact Hlv
    iexact Hab
  iintro ⟨HO, Hab, -, Hpay⟩
  ihave Hpay' := (Entails.of_eq (rest_bar T c)) $$ Hpay
  unfold barPay
  icases Hpay' with ⟨Hpo, #Hrrp⟩
  rw [wp_bind]
  iapply (run_t1 T κ c) $$ [Hi Ht Hr Hd Ho Hpo Hes Hec HO]
  · isplitr
    · isplitr; · iexact Hic
      isplitr; · iexact His
      isplitr; · iexact Hirp
      isplitr; · iexact Hrc
      isplitr; · iexact Hrs
      iexact Hrrp
    isplitl [Hi]; · iexact Hi
    isplitl [Ht Hr]
    · unfold Lists
      iexists ft, fr
      isplitr; · ipureintro; exact listed_zero T c ft fr
      isplitl [Ht]; · iexact Ht
      iexact Hr
    iapply (issue_start T c _)
    isplitl [Hd]; · iexact Hd
    isplitl [Ho]; · iexact Ho
    isplitl [Hpo]; · iexact Hpo
    isplitl [Hes]; · iexact Hes
    isplitl [Hec]; · iexact Hec
    iexact HO
  iintro ⟨Hi, HL, HI⟩
  ihave HI' := (issue_end T c) $$ HI
  icases HI' with ⟨HO, Hcc, Hcs⟩
  ihave HDc := (drain_start T c copyS) $$ [Hac Hcc]
  · isplitl [Hac]; · iexact Hac
    iexact Hcc
  ihave HDs := (drain_start T c sendS) $$ [Has Hcs]
  · isplitl [Has]; · iexact Has
    iexact Hcs
  ihave HDr := (drain_start T c recvS) $$ [Har Hcr]
  · isplitl [Har]; · iexact Har
    rw [dut_recv]; iexact Hcr
  iapply (wp_assume 𝒱₀ (c : Thread nD τ) none Set.univ (chk8 hk))
  rw [wp_bind]
  iapply (run_t6 T c (κ (copyCell c)) (κ (sendCell c)) rfl (chk8 hk)) $$ [HDc HDs HO]
  · isplitr; · iexact Hic
    isplitr; · iexact His
    isplitl [HDc]; · iexact HDc
    isplitl [HDs]; · iexact HDs
    iexact HO
  iintro ⟨HDc, HDs, HO⟩
  rw [wp_bind]
  iapply (no_trips c _ (k0_t7_ok _ (chk8 hk)) (t7_trips hk))
  rw [wp_bind]
  iapply (run_t8 T c (κ (recvCell c)) rfl (chk8 hk)) $$ [HDr HO]
  · isplitr; · iexact Hir
    isplitl [HDr]; · iexact HDr
    iexact HO
  iintro ⟨HDr, HO⟩
  rw [wp_bind]
  iapply (no_trips c _ (k0_t9_ok _ (chk8 hk)) (t9_trips hk))
  rw [wp_ret]
  imod (drain_end T c copyS (κ (copyCell c))) $$ [HDc] with ⟨Hzc, Hpc⟩
  · isplitr; · iexact Hic
    rw [dut_copy]; iexact HDc
  imod (drain_end T c sendS (κ (sendCell c))) $$ [HDs] with ⟨Hzs, Hps⟩
  · isplitr; · iexact His
    rw [dut_send]; iexact HDs
  imod (drain_end T c recvS (κ (recvCell c))) $$ [HDr] with ⟨Hzr, Hpr⟩
  · isplitr; · iexact Hir
    rw [dut_recv, card_own_peer]; iexact HDr
  imod (close T (κ (barCell c)) (barCell c)) $$ [Hab] with Hzb
  · isplitr; · iexact Hib
    iexact Hab
  imodintro
  iapply HQ
  isplitr [Hzb Hzc Hzs Hzr HO]
  · unfold bufs₁ Lists
    icases HL with ⟨%ft', %fr', -, Ht, Hr⟩
    isplitl [Hi]; · iexact Hi
    isplitl [Ht]; · iexists ft'; iexact Ht
    isplitl [Hr]; · iexists fr'; iexact Hr
    iapply (rejoin T c)
    rw [← pays_copy, ← pays_send, ← pays_recv]
    isplitl [Hpc]; · iexact Hpc
    isplitl [Hps]; · iexact Hps
    isplitl [Hpr]; · iexact Hpr
    isplitl [Hls]; · iexact Hls
    iexact Hlc
  isplitr [HO]
  · unfold zeros
    isplitl [Hzb]; · iexact Hzb
    isplitl [Hzc]; · iexact Hzc
    isplitl [Hzs]; · iexact Hzs
    iexact Hzr
  · iexact HO

end Cert.KernelIdeal.Lookup

end

end
-- ==== Proof.Region.lean ====
module

public import proofs.«01_k».proof.Proof.Body
public import proofs.«01_k».proof.Proof.Gen.KernelIdeal.Launch
public import proofs.«01_k».proof.Proof.Gen.KernelIdeal.Points
public import Idealize.ShloMosaic.Lib.Pipeline.Value
public import Idealize.ShloMosaic.Lib.Pipeline.RegionTalk

@[expose] public section

set_option maxRecDepth 16384

/-! # The kernel as a region of the program: its windows, its body's obligation -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

/-! ## What the kernel holds before and after its one point -/

/-- The kernel's own counters: local copies, departures, arrivals. -/
abbrev osem : Fin 3 → SemLoc sig := fun | 0 => .dma copyS | 1 => .dma sendS | 2 => .dma recvS
theorem osem_facts : Pipeline.OwnSemFacts spec0 osem := by decide

theorem osems_eq (c : Dev nD) :
    (Pipeline.ownSems0 (Ix := Unit) (Name := ℕ) (U := UU) (Lvl := ℕ) (Val := Elt F) (τ := τ) osem c : sProp 𝕄)
      = iprop(semVal (copyCell c) 0 ∗ semVal (sendCell c) 0 ∗ semVal (recvCell c) 0) :=
  bigSep_univ_eq_bigSepL [(0 : Fin 3), 1, 2] (by decide) (by decide) _

/-- The tokens of the duties a device pays, and the credits of its two waits on others. -/
def toks (c : Dev nD) : sProp 𝕄 :=
  iprop(dutyTok EB (barCell (peer c)) 0 0
    ∗ ((bigSep (own T c) fun t => dutyTok EB (recvCell (peer c)) 0 t) ∗ (bigSep (own T c) fun t => dutyTok EB (copyCell c) 0 t)
      ∗ bigSep (own T c) fun t => dutyTok EB (sendCell c) 0 t))
def creds (c : Dev nD) : sProp 𝕄 :=
  iprop(cred (tallyAt (barCell c) () 1) ∗ cred (tallyAt (recvCell c) () (N * (own T (peer c)).card)))

/-- The invariants that device `c` consults. -/
abbrev Invs (κ : GSem nD τ sig → ℕ) (c : Dev nD) : sProp 𝕄 :=
  iprop(cellInv EB (rd T) (κ (barCell c)) (barCell c) ∗ cellInv EB (rd T) (κ (barCell (peer c))) (barCell (peer c))
    ∗ cellInv EB (rd T) (κ (copyCell c)) (copyCell c) ∗ cellInv EB (rd T) (κ (sendCell c)) (sendCell c)
    ∗ cellInv EB (rd T) (κ (recvCell c)) (recvCell c) ∗ cellInv EB (rd T) (κ (recvCell (peer c))) (recvCell (peer c))
    ∗ reached EB (barCell (peer c)) 0)

/-- What device `c` keeps from the launch to its kernel: its own counters still closed. -/
def Kept (c : Dev nD) : sProp 𝕄 :=
  iprop((∃ κ, Invs T κ c) ∗ (atPos EB (barCell c) 0 ∅ 0 ∗ openTok EB (copyCell c) ∗ openTok EB (sendCell c) ∗ openTok EB (recvCell c))
    ∗ toks T c ∗ creds T c)

/-- The same with its own counters opened. -/
def Ready (c : Dev nD) : sProp 𝕄 :=
  iprop((∃ κ, Opened T κ c) ∗ levAts L lv
    ∗ (atPos EB (barCell c) 0 ∅ 0 ∗ atPos EB (copyCell c) 0 ∅ 0 ∗ atPos EB (sendCell c) 0 ∅ 0 ∗ atPos EB (recvCell c) 0 ∅ 0)
    ∗ toks T c ∗ creds T c)

/-- The two lists of the kernel, at any contents, and the random generator's register. -/
def lists (c : Dev nD) : sProp 𝕄 := iprop((∃ f, tokPt c f) ∗ (∃ f, rowPt c f))

/-- Opening the kernel's own counters. -/
theorem open_own (c : Dev nD) : iprop(Kept T c ∗ Pipeline.ownSems0 osem c ∗ levAts L lv) ⊢ (|={Set.univ}=> Ready T c : sProp 𝕄) := by
  rw [osems_eq]
  unfold Kept Ready
  iintro ⟨⟨⟨%κ, #Hib, #Hibp, #Hic, #His, #Hir, #Hirp, #Hrb⟩, ⟨Hab, Hoc, Hos, Hor⟩, Ht, Hc⟩, ⟨Hvc, Hvs, Hvr⟩, #Hlv⟩
  imod (Rounds.cell_open EB (rd T) (g := copyCell c) (Set.mem_univ (κ (copyCell c)))) $$ [Hoc Hvc] with ⟨Hac, #Hrc⟩
  · isplitr; · iexact Hic
    isplitl [Hoc] <;> iassumption
  imod (Rounds.cell_open EB (rd T) (g := sendCell c) (Set.mem_univ (κ (sendCell c)))) $$ [Hos Hvs] with ⟨Has, #Hrs⟩
  · isplitr; · iexact His
    isplitl [Hos] <;> iassumption
  imod (Rounds.cell_open EB (rd T) (g := recvCell c) (Set.mem_univ (κ (recvCell c)))) $$ [Hor Hvr] with ⟨Har, #Hrr⟩
  · isplitr; · iexact Hir
    isplitl [Hor] <;> iassumption
  imodintro
  isplitr
  · iexists κ
    isplitr; · iexact Hib
    isplitr; · iexact Hibp
    isplitr; · iexact Hic
    isplitr; · iexact His
    isplitr; · iexact Hir
    isplitr; · iexact Hirp
    isplitr; · iexact Hrb
    isplitr; · iexact Hrc
    isplitr; · iexact Hrs
    iexact Hrr
  isplitr; · iexact Hlv
  isplitl [Hab Hac Has Har]
  · isplitl [Hab]; · iexact Hab
    isplitl [Hac]; · iexact Hac
    isplitl [Has] <;> iassumption
  isplitl [Ht] <;> iassumption

/-! ## The region's data -/

/-- What every device holds when the kernel is entered: the tokens' words, and its half of the table. -/
structure Entry (V : Dev nD → Valuation τ sig (Elt F)) : Prop where
  ids : ∀ c, V c main_v1 = T.w c
  tab : ∀ c, V c main_arg1 = T.E c

variable (V : Dev nD → Valuation τ sig (Elt F))

/-- Afterwards the result buffer holds the rows. -/
abbrev V' (c : Dev nD) : Valuation τ sig (Elt F) := Function.update (V c) (Proc.devRef .tc main_v2) (outVal T c)

/-- What the staging buffer of the words is filled with. -/
def staged (c : Dev nD) : (cc0_stg0_0 : Ref sig .tc).ty.Contents (Elt F) :=
  ((cfg0.win 0).blk t0_0).view.read (Elt F) (V c (Proc.devRef .tc main_v1))

def dat0 (c : Dev nD) : Pipeline.Dat τ (Elt F) Unit ℕ UU ℕ cfg0 c where
  A w := V c (Proc.devRef .tc (Pipeline.arrRef spec0 w))
  after w _ := match w with
    | ⟨0, _⟩ => staged V c
    | ⟨1, _⟩ => outVal T c
  Φ t := if t.val = 0 then iprop(Ready T c ∗ tabPt T c Finset.univ fullShare ∗ lists c ∗ ∃ r, prngReg c r)
    else iprop(zeros c ∗ tabPt T c Finset.univ fullShare ∗ lists c ∗ ∃ r, prngReg c r)
  q _ := fullShare
  owed t := if t.val = 0 then kDue T c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 T V

theorem read_v1 (f : S1024.Idx → Elt F .i32) : ((cfg0.win 0).blk t0_0).view.read (Elt F) f = f := by
  funext i
  refine congrArg f ?_
  funext a
  have e : win0_0.index t0_0 0 * win0_0.size 0 = 0 := by decide +kernel
  match a with
  | ⟨0, _⟩ => exact Fin.ext (show win0_0.index t0_0 0 * win0_0.size 0 + 1 * (i 0).val = (i 0).val by rw [e]; omega)

theorem staged_eq {V : Dev nD → Valuation τ sig (Elt F)} (hV : Entry T V) (c : Dev nD) : staged V c = T.w c := by
  unfold staged
  exact (read_v1 _).trans (hV.ids c)

theorem before_in (c : Dev nD) (d : (cfg0.win 0).block.Idx → Elt F (cfg0.win 0).elt) : (dat0 T V c).before 0 t0_0 d = staged V c := by
  unfold Pipeline.Dat.before; rw [if_pos (fetch0_0 t0_0)]; rfl

theorem cover (i : S1024x1024.Idx) : ∃ t : Fin cfg0.N, (cfg0.win 1).flush t = true ∧ i ∈ ((cfg0.win 1).blk t).view.set := by
  refine ⟨t0_0, flush0_1 _, ?_⟩
  show i ∈ ((View.whole main_v2).slice (win0_1.rect t0_0)).set
  rw [View.set_slice_whole, Rect.mem_set_unit]
  have h0 : (i 0 : Nat) < 1024 := (i 0).isLt
  have h1 : (i 1 : Nat) < 1024 := (i 1).isLt
  have e : win0_1.index t0_0 0 * win0_1.size 0 = 0 ∧ win0_1.xsize (grid0.coords t0_0) 0 = 1024
      ∧ win0_1.index t0_0 1 * win0_1.size 1 = 0 ∧ win0_1.xsize (grid0.coords t0_0) 1 = 1024 := by decide +kernel
  intro a
  match a with
  | ⟨0, _⟩ => show win0_1.index t0_0 0 * win0_1.size 0 ≤ (i 0 : Nat) ∧ (i 0 : Nat) < win0_1.index t0_0 0 * win0_1.size 0 + win0_1.xsize (grid0.coords t0_0) 0
              rw [e.1, e.2.1]; omega
  | ⟨1, _⟩ => show win0_1.index t0_0 1 * win0_1.size 1 ≤ (i 1 : Nat) ∧ (i 1 : Nat) < win0_1.index t0_0 1 * win0_1.size 1 + win0_1.xsize (grid0.coords t0_0) 1
              rw [e.2.2.1, e.2.2.2]; omega

theorem flushed_eq (c : Dev nD) (t : Fin cfg0.N) :
    (dat0 T V c).flushed 1 t = ((cfg0.win 1).blk t).view.read (Elt F) (outVal T c) := by
  obtain rfl := fin_N0 t
  have ha : (dat0 T V c).after 1 t0_0 = outVal T c := by dsimp only [dat0]
  unfold Pipeline.Dat.flushed
  rw [ha]
  funext i
  refine congrArg (outVal T c) ?_
  funext a
  have e : win0_1.index t0_0 0 * win0_1.size 0 = 0 ∧ win0_1.index t0_0 1 * win0_1.size 1 = 0 := by decide +kernel
  match a with
  | ⟨0, _⟩ => exact Fin.ext (show (i 0).val = win0_1.index t0_0 0 * win0_1.size 0 + 1 * (i 0).val by rw [e.1]; omega)
  | ⟨1, _⟩ => exact Fin.ext (show (i 1).val = win0_1.index t0_0 1 * win0_1.size 1 + 1 * (i 1).val by rw [e.2]; omega)

/-- The kernel's result array ends holding the rows. -/
theorem arr_out (c : Dev nD) : (dat0 T V c).arrAt 1 cfg0.N = outVal T c :=
  (dat0 T V c).arrAt_eq_of_cover 1 (outVal T c) (fun t _ => flushed_eq T V c t) cover

theorem owed_first (c : Dev nD) : (dat0 T V c).owed t0_0.castSucc = kDue T c := by
  show (if (t0_0.castSucc : Fin (cfg0.N + 1)).val = 0 then kDue T c else 0) = kDue T c; exact if_pos rfl
theorem owed_last (c : Dev nD) : (dat0 T V c).owed t0_0.succ = 0 := by
  show (if (t0_0.succ : Fin (cfg0.N + 1)).val = 0 then kDue T c else 0) = 0; exact if_neg (by simp)
theorem inv_first (c : Dev nD) : (dat0 T V c).Φ t0_0.castSucc = iprop(Ready T c ∗ tabPt T c Finset.univ fullShare ∗ lists c ∗ ∃ r, prngReg c r) := by
  dsimp only [dat0]; exact if_pos rfl
theorem inv_last (c : Dev nD) : (dat0 T V c).Φ t0_0.succ = iprop(zeros c ∗ tabPt T c Finset.univ fullShare ∗ lists c ∗ ∃ r, prngReg c r) := by
  dsimp only [dat0]; exact if_neg (by simp)

theorem owes_intro (c : Dev nD) (W : Waits sig Unit) :
    (owes (c : Thread nD τ) 0 W : sProp 𝕄) ⊢ ((dat0 T V c).owesAt () t0_0.succ : sProp 𝕄) := by
  unfold Pipeline.Dat.owesAt Pipeline.owesWithin Pipeline.Dat.bound; rw [owed_last]
  iintro HO; iexists W; isplitr; · ipureintro; exact fun _ _ => Or.inl trivial
  iexact HO
theorem owes_elim (c : Dev nD) :
    ((dat0 T V c).owesAt () t0_0.castSucc : sProp 𝕄) ⊢ iprop(∃ W, owes (c : Thread nD τ) (kDue T c) W) := by
  unfold Pipeline.Dat.owesAt Pipeline.owesWithin; rw [owed_first]
  iintro ⟨%W, -, HO⟩; iexists W; iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole (c : Thread nD τ) b fullShare X

/-- The kernel's body runs from what the region hands it to what the region takes back. -/
theorem body_runs {V : Dev nD → Valuation τ sig (Elt F)} (hV : Entry T V) (c : Dev nD) :
    Pipeline.BodyObligation (dat0 T V c) (defs₀ (F := F)) 𝒱₀ () Set.univ := fun t => by
  obtain rfl := fin_N0 t
  rw [bigSep_W0, bigSep_W0]
  simp only [owns_whole_eq]
  rw [inv_first, inv_last]
  iintro ⟨⟨HR, HE, HL, Hp⟩, HO, ⟨%d0, H0⟩, ⟨%d1, H1⟩⟩
  rw [before_in, staged_eq T hV]
  unfold Ready lists
  icases HR with ⟨⟨%κ, #Hop⟩, #Hlv, Hat, Ht, Hc⟩
  icases HL with ⟨Hl1, Hl2⟩
  ihave HO' := (owes_elim T V c) $$ HO
  iapply (run_body T κ c _) $$ [Hat Ht Hc HO' HE H0 H1 Hl1 Hl2]
  · isplitr; · iexact Hop
    isplitr; · iexact Hlv
    isplitl [Hat Ht Hc HO']
    · unfold Start toks creds
      isplitl [Hat]; · iexact Hat
      icases Ht with ⟨Ht, Ht'⟩
      isplitl [Ht]; · iexact Ht
      isplitl [Ht']; · iexact Ht'
      icases Hc with ⟨Hc, Hc'⟩
      isplitl [Hc]; · iexact Hc
      isplitl [Hc']; · iexact Hc'
      iexact HO'
    unfold bufs₀
    isplitl [H0]; · iexact H0
    isplitl [Hl1]; · iexact Hl1
    isplitl [Hl2]; · iexact Hl2
    isplitl [H1]; · iexists _; iexact H1
    iexact HE
  unfold bufs₁
  iintro ⟨⟨H0, Hl1, Hl2, H1, HE⟩, Hz, ⟨%W, HO⟩⟩
  isplitl [Hz HE Hl1 Hl2 Hp]
  · isplitl [Hz]; · iexact Hz
    isplitl [HE]; · iexact HE
    isplitl [Hl1 Hl2]; · isplitl [Hl1] <;> iassumption
    iexact Hp
  isplitl [HO]; · iapply (owes_intro T V c W); iexact HO
  isplitl [H0]
  · rw [show (dat0 T V c).after 0 t0_0 = T.w c from staged_eq T hV c]
    iexact H0
  iexact H1

end Cert.KernelIdeal.Lookup

end

end
-- ==== Proof.Program.lean ====
module

public import proofs.«01_k».proof.Proof.Region
public import Idealize.ShloMosaic.Lib.Pipeline.Frame

@[expose] public section

set_option maxRecDepth 16384

/-! # The program as two statements: the host's exchange of the tokens' words, then the kernel -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

open Idealize.ShloMosaic.AllReduce (Cfg)

variable (m : (ℓ : Loc nD τ sig) → Buf (Elt F) ℓ) (ρ : Dev nD → PrngReg)

/-- A device's buffers at launch, and after the host's exchange. -/
abbrev V₀ (c : Dev nD) : Valuation τ sig (Elt F) := fun b => m ((c : Dev nD), b)
abbrev V₁ (c : Dev nD) : Valuation τ sig (Elt F) := (ar0 (F := F)).after₀ (V₀ m) c
/-- And after the kernel. -/
abbrev V₂ (c : Dev nD) : Valuation τ sig (Elt F) := V' T (V₁ m) c

local notation "ℍ" => Pipeline.HostSeg (Name := ℕ) (U := UU) (pcfgs (F := F)) defs₀ 𝒱₀ L lv
local notation "ℝ𝕊" => Pipeline.RegionSeg (pcfgs (F := F)) adm (pdats T (V₁ m)) () defs₀ 𝒱₀ L lv

/-! ## The host's exchange -/

abbrev hostDat : AllReduce.Dat Unit ℕ UU ℕ (ar0 (F := F)) := AllReduce.Dat.once (ar0 (F := F)) (V₀ m)
/-- The counters of the exchange are under their invariants. -/
abbrev hostInvs : sProp 𝕄 := iprop(∃ κ, (hostDat m).cellInvs EA κ)

theorem dataDue_pos {c : Dev nD} {g : GSem nD τ sig} {u : Unit} (h : 0 < (ar0 (F := F)).dataDue c () g u) :
    g.1.2 = .tc ∧ g.2 = .dma ar0_recv := by
  unfold Cfg.dataDue at h
  rw [Finset.sum_apply, Finsupp.finsetSum_apply] at h
  obtain ⟨j, -, hj⟩ := Finset.exists_ne_zero_of_sum_ne_zero (Nat.pos_iff_ne_zero.mp h)
  by_contra hg
  apply hj
  rw [tallyAt_apply, if_neg]
  rintro ⟨e, -⟩
  subst e
  exact hg ⟨rfl, rfl⟩

/-- While a device waits to enter the exchange it owes only arrivals there and what its kernel will do. -/
theorem host_enter (c : Dev nD) :
    (levAts L lv : sProp 𝕄) ⊢ MayWait (c : Thread nD τ) (.reg (ar0 (F := F)).barrier) () (kDue T c + (ar0 (F := F)).dataDue c ()) := by
  have hpos {g : GSem nD τ sig} {u : Unit} (hg : 0 < (kDue T c + (ar0 (F := F)).dataDue c ()) g u) : u ∈ L g ∧ 1 < lv g u := by
    rw [Pi.add_apply, Finsupp.add_apply] at hg
    rcases Nat.add_pos_iff_pos_or_pos.mp hg with h | h
    · exact ⟨(kDue_lv T h).1, (kDue_lv T h).2.trans' (by decide)⟩
    · obtain ⟨h1, h2⟩ := dataDue_pos h
      cases u
      exact ⟨by unfold L; rw [if_pos h1]; exact Finset.mem_singleton_self _,
        by dsimp only [lv]; rw [h2, if_neg (fun h => by cases h), if_pos rfl]; decide⟩
  exact MayOwe.of_cut (L := L) (lev := lv) 1 (fun p hp => by rw [Finset.mem_singleton.mp hp, L_tc]; exact Finset.mem_singleton_self _)
    (fun g u hg => (hpos hg).1)
    (fun p hp => by rw [Finset.mem_singleton.mp hp]; exact le_of_eq (if_pos rfl))
    (fun g u hg => (hpos hg).2)

/-- Its other waits there come before everything its kernel owes. -/
theorem host_wait (c : Dev nD) (s : DmaSem sig) (hs : lv ((c : Thread nD τ), .dma s) () ≤ 2) :
    (levAts L lv : sProp 𝕄) ⊢ MayWait (c : Thread nD τ) (.dma s) () (kDue T c) :=
  MayOwe.of_cut (L := L) (lev := lv) 2 (fun p hp => by rw [Finset.mem_singleton.mp hp, L_tc]; exact Finset.mem_singleton_self _)
    (fun g u hg => (kDue_lv T hg).1)
    (fun p hp => by rw [Finset.mem_singleton.mp hp]; exact hs)
    (fun g u hg => (kDue_lv T hg).2)

/-- What rides past the exchange: the other buffers, the generator's register, and what the kernel will need. -/
def restA (c : Dev nD) : sProp 𝕄 :=
  iprop(StableHlo.held (c : Thread nD τ) (Pipeline.ucRefs τ sig \ (ar0 (F := F)).siteRefs) (V₀ m c) ∗ (∃ r, prngReg c r) ∗ Kept T c ∗ hostInvs m)

/-- The exchange, the program's first statement. -/
def seg0 : ℍ :=
  collSeg0 EA 𝒱₀ L lv (V₀ m) (fun c => kDue T c) () () () () () (fun c => host_enter T c)
    (fun c => host_wait T c _ (by show lv ((c : Thread nD τ), .dma ar0_recv) () ≤ 2; dsimp only [lv]; rw [if_neg (by decide), if_pos rfl]))
    (fun c => host_wait T c _ (by
      show lv ((c : Thread nD τ), .dma ar0_send) () ≤ 2
      dsimp only [lv]; rw [if_neg (by decide), if_neg (by decide), if_neg (by decide), if_neg (by decide)]; decide))
    (restA T m)

/-! ## The kernel -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The table's half, which the kernel addresses itself; the arrays of its windows; the other buffers. -/
abbrev Hs : Finset (DevRef τ sig) := {Proc.devRef .tc main_arg1}
abbrev Ar : Finset (DevRef τ sig) := Pipeline.arrRefs (τ := τ) spec0
abbrev Sr : Finset (DevRef τ sig) := Pipeline.ucRefs τ sig \ Ar

theorem Hs_sub : Hs ⊆ Sr := by decide
theorem Ar_sub : Ar ⊆ Pipeline.ucRefs τ sig := by decide
theorem out_notMem : (Proc.devRef .tc main_v2 : DevRef τ sig) ∉ Sr := by decide

theorem held_Hs (c : Dev nD) (W : Valuation τ sig (Elt F)) (hW : W main_arg1 = T.E c) :
    (StableHlo.held (c : Thread nD τ) Hs W : sProp 𝕄) = tabPt T c Finset.univ fullShare := by
  unfold StableHlo.held Hs
  rw [bigSep_singleton]
  exact congrArg (fun f => (((c : Dev nD), Proc.devRef .tc main_arg1) ↦{fullShare} f : sProp 𝕄)) hW

theorem scoped_eq (c : Dev nD) :
    (Pipeline.scopedRest (Ix := Unit) (Name := ℕ) (U := UU) (Lvl := ℕ) (Val := Elt F) (Pipeline.pin (pcfgs (F := F)) adm 0).spec c : sProp 𝕄) = lists c :=
  scopedRest0_eq c

theorem V₂_v1 (c : Dev nD) : V₂ T m c main_v1 = V₁ m c main_v1 := Function.update_of_ne (by decide) ..
theorem V₂_arg1 (c : Dev nD) : V₂ T m c main_arg1 = V₁ m c main_arg1 := Function.update_of_ne (by decide) ..
theorem V₂_arg0 (c : Dev nD) : V₂ T m c main_arg0 = V₁ m c main_arg0 := Function.update_of_ne (by decide) ..
theorem V₂_out (c : Dev nD) : V₂ T m c main_v2 = outVal T c := Function.update_self ..

theorem inv_zero (V : Dev nD → Valuation τ sig (Elt F)) (c : Dev nD) :
    (pdats T V 0 c).Φ 0 = iprop(Ready T c ∗ tabPt T c Finset.univ fullShare ∗ lists c ∗ ∃ r, prngReg c r) := by
  dsimp only [pdats, dat0]; exact if_pos rfl
theorem inv_end (V : Dev nD → Valuation τ sig (Elt F)) (c : Dev nD) :
    (pdats T V 0 c).Φ (Fin.last (Pipeline.pin (pcfgs (F := F)) adm 0).N) = iprop(zeros c ∗ tabPt T c Finset.univ fullShare ∗ lists c ∗ ∃ r, prngReg c r) := by
  have hN : (Pipeline.pin (pcfgs (F := F)) adm 0).N = 1 := N_0
  dsimp only [pdats, dat0]; exact if_neg (by rw [Fin.val_last, hN]; decide)

section Kernel

variable {m} (hV : Entry T (V₁ m))
include hV

theorem enter (c : Dev nD) :
    iprop(Pipeline.scopedRest (Pipeline.pin (pcfgs (F := F)) adm 0).spec c ∗ (∃ r, prngReg c r) ∗ StableHlo.held (c.tc : Thread nD τ) Hs (V₁ m c) ∗ Ready T c)
      ⊢ (pdats T (V₁ m) 0 c).Φ 0 := by
  rw [inv_zero, scoped_eq, held_Hs T c _ (hV.tab c)]
  iintro ⟨Hs, Hp, HE, HR⟩
  isplitl [HR]; · iexact HR
  isplitl [HE]; · iexact HE
  isplitl [Hs] <;> iassumption

theorem leave (c : Dev nD) :
    (pdats T (V₁ m) 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) Hs (V₂ T m c)
          ∗ Pipeline.ownSems0 osem c ∗ semVal (barCell c) 0) := by
  have h : V₂ T m c main_arg1 = T.E c := (V₂_arg1 T m c).trans (hV.tab c)
  rw [inv_end, scoped_eq, held_Hs T c _ h, osems_eq]
  unfold zeros
  iintro ⟨⟨Hb, Hz⟩, HE, Hl, Hp⟩
  isplitl [Hl]; · iexact Hl
  isplitl [Hp]; · iexact Hp
  isplitl [HE]; · iexact HE
  isplitl [Hz] <;> iassumption

end Kernel

/-- What the exchange leaves, riding past the kernel. -/
def restE (c : Dev nD) : sProp 𝕄 := iprop(hostInvs m ∗ (ar0 (F := F)).ghostAfter EA c 0)

theorem owed_cut (V : Dev nD → Valuation τ sig (Elt F)) (c : Dev nD) (t : Fin ((Pipeline.pin (pcfgs (F := F)) adm 0).N + 1)) (g : GSem nD τ sig) (i : Unit)
    (h : 0 < (pdats T V 0 c).owed t g i) : i ∈ L g ∧ (0 : ℕ) < lv g i := by
  have e : (pdats T V 0 c).owed t = if t.val = 0 then kDue T c else 0 := rfl
  rw [e] at h
  split at h
  · exact ⟨(kDue_lv T h).1, (kDue_lv T h).2.trans' (by decide)⟩
  · exact absurd h (Nat.lt_irrefl 0)

theorem stage_lv (c : Dev nD) (w : Fin cfg0.W) (s : Fin (cfg0.win w).nbuf) : lv ((c : Thread nD τ), .dma ((cfg0.win w).sem s)) () ≤ 0 := by
  have h : ∀ (w : Fin 2) (s : Fin (spec0 w).nbuf), (SemLoc.dma ((spec0 w).sem s) : SemLoc sig) ≠ .dma ar0_recv ∧ (SemLoc.dma ((spec0 w).sem s) : SemLoc sig) ≠ .dma recvS := by decide
  dsimp only [lv]
  rw [if_neg (fun h => by cases h), if_neg (h w s).1, if_neg (dma_ne_bar _), if_neg (h w s).2]

set_option backward.isDefEq.respectTransparency.types false in
/-- The kernel, the program's second statement. -/
def reg0 (hV : Entry T (V₁ m)) : ℝ𝕊 0 :=
  Pipeline.RegionSeg.ofTalk (pcfgs (F := F)) adm (pdats T (V₁ m)) () defs₀ 𝒱₀ L lv 0 osem osem_facts
    Hs Sr Hs_sub kit rfl (fun c => (body_runs T hV c).loose)
    (fun _ => 0) (fun c => kDue T c) (fun c => (show (pdats T (V₁ m) 0 c).owed 0 = kDue T c from by dsimp only [pdats, dat0]; exact if_pos rfl).trans (zero_add _).symm)
    (fun c => by
      have hN : (Pipeline.pin (pcfgs (F := F)) adm 0).N = 1 := N_0
      dsimp only [pdats, dat0]; exact if_neg (by rw [Fin.val_last, hN]; decide))
    (fun _ => rfl) (fun c => (pdats T (V₁ m) 0 c).share_full fun _ => rfl)
    (V₁ m) (V₂ T m)
    (fun c b hb => Function.update_of_ne (fun e : b = Proc.devRef .tc main_v2 => out_notMem (by rw [← e]; exact (Finset.mem_sdiff.mp hb).1)) (outVal T c) (V₁ m c))
    (fun c => Kept T c) (fun c => semVal (barCell c) 0) (fun c => Ready T c) (fun c => semVal (barCell c) 0)
    (open_own T) (enter T hV) (leave T hV)
    (fun c => by iintro H; imodintro; iexact H)
    (fun _ => 0)
    ⟨fun c w s => by rw [L_tc]; exact Finset.mem_singleton_self _, fun c w s => stage_lv c w s, fun c t g i h => owed_cut T (V₁ m) c t g i h⟩
    (restE m)
    (fun c w => rfl)
    (fun c w => by
      match w with
      | ⟨0, _⟩ => exact ((dat0 T (V₁ m) c).arrAt_in 0 rfl _).trans (V₂_v1 T m c).symm
      | ⟨1, _⟩ => exact (arr_out T (V₁ m) c).trans (V₂_out T m c).symm)

/-! ## Between the statements -/

/-- What a device holds at the end: every buffer, what the exchange left, the kernel's entry counter at zero. -/
abbrev Tₙ (c : Dev nD) : sProp 𝕄 :=
  iprop(StableHlo.held (c : Thread nD τ) (Pipeline.ucRefs τ sig) (V₂ T m c) ∗ restE m c ∗ semVal (barCell c) 0)

theorem site_sub : (ar0 (F := F)).siteRefs ⊆ Pipeline.ucRefs τ sig := (ar0 (F := F)).siteRefs_sub_ucRefs

/-- The exchange's end is the kernel's beginning. -/
theorem seg0_reg0 (hV : Entry T (V₁ m)) (c : Dev nD) : (seg0 T m).post c ⊢ (reg0 T m hV).pre c := by
  show iprop(StableHlo.held (c : Thread nD τ) (ar0 (F := F)).siteRefs (V₁ m c) ∗ (ar0 (F := F)).ghostAfter EA c 0
      ∗ (∃ W, owes (c : Thread nD τ) (kDue T c) W) ∗ restA T m c)
    ⊢ iprop(StableHlo.held (c.tc : Thread nD τ) Ar (V₁ m c) ∗ (∃ r, prngReg c r)
      ∗ (StableHlo.held (c.tc : Thread nD τ) Sr (V₁ m c) ∗ restE m c) ∗ Kept T c ∗ ∃ Wd, owes (c : Thread nD τ) (0 + kDue T c) Wd)
  have e : iprop(StableHlo.held (c : Thread nD τ) (ar0 (F := F)).siteRefs (V₁ m c)
        ∗ StableHlo.held (c : Thread nD τ) (Pipeline.ucRefs τ sig \ (ar0 (F := F)).siteRefs) (V₀ m c))
      = (iprop(StableHlo.held (c.tc : Thread nD τ) Ar (V₁ m c) ∗ StableHlo.held (c.tc : Thread nD τ) Sr (V₁ m c)) : sProp 𝕄) := by
    rw [← StableHlo.held_sub_split (c.tc : Thread nD τ) Ar_sub, StableHlo.held_sub_split (c.tc : Thread nD τ) (site_sub (F := F)),
      StableHlo.held_congr (c.tc : Thread nD τ) (S := Pipeline.ucRefs τ sig \ (ar0 (F := F)).siteRefs) (V := V₁ m c) (V' := V₀ m c)
        fun b hb => (ar0 (F := F)).after₀_off_siteRefs (V₀ m) c (Finset.mem_sdiff.mp hb).2]
  unfold restA restE
  rw [zero_add]
  iintro ⟨Hh, Hg, HO, Hh', Hp, HK, Hi⟩
  ihave H := (Entails.of_eq e) $$ [Hh Hh']
  · isplitl [Hh] <;> iassumption
  icases H with ⟨Ha, Hr⟩
  isplitl [Ha]; · iexact Ha
  isplitl [Hp]; · iexact Hp
  isplitl [Hr Hi Hg]
  · isplitl [Hr]; · iexact Hr
    isplitl [Hi] <;> iassumption
  isplitl [HK]; · iexact HK
  iexact HO

theorem reg0_end (hV : Entry T (V₁ m)) (c : Dev nD) :
    (reg0 T m hV).post c ⊢ iprop(Tₙ T m c ∗ ∃ W, owes (c : Thread nD τ) (0 : CellTallies nD τ sig Unit) W) := by
  show iprop(StableHlo.held (c.tc : Thread nD τ) Ar (V₂ T m c) ∗ (∃ r, prngReg c r)
      ∗ (StableHlo.held (c.tc : Thread nD τ) Sr (V₂ T m c) ∗ restE m c) ∗ semVal (barCell c) 0
      ∗ ∃ Wd, owes (c : Thread nD τ) (0 : CellTallies nD τ sig Unit) Wd) ⊢ _
  unfold Tₙ
  rw [StableHlo.held_sub_split (c.tc : Thread nD τ) Ar_sub]
  iintro ⟨Ha, -, ⟨Hr, HE⟩, Hb, HO⟩
  isplitr [HO]
  · isplitl [Ha Hr]; · isplitl [Ha] <;> iassumption
    isplitl [HE] <;> iassumption
  iexact HO

/-- The program as its two statements. -/
def segs (hV : Entry T (V₁ m)) : List (Pipeline.Seg (pcfgs (F := F)) adm (pdats T (V₁ m)) () defs₀ 𝒱₀ L lv) :=
  [.host (seg0 T m), .region (reg0 T m hV)]

theorem main_eq (hV : Entry T (V₁ m)) (c : Dev nD) : main (F := F) c = Pipeline.Seg.run (segs T m hV) :=
  main_segs adm (pdats T (V₁ m)) () 𝒱₀ L lv (seg0 T m) (reg0 T m hV) rfl c

end Cert.KernelIdeal.Lookup

end

end
-- ==== Proof.Launch.lean ====
module

public import proofs.«01_k».proof.Proof.Program

@[expose] public section

set_option maxRecDepth 16384

/-! # The launch: the two protocols' counters, tokens and credits dealt to the devices -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

variable (m : (ℓ : Loc nD τ sig) → Buf (Elt F) ℓ) (ρ : Dev nD → PrngReg)

/-! ## The kernel's cells and duties at launch -/

theorem osem_inj : Function.Injective osem := by decide
theorem osem_ne_bar (k : Fin 3) : osem k ≠ .reg barS := by revert k; decide

theorem dev_of_cell {c d : Dev nD} {s t : SemLoc sig} (h : (((c : Thread nD τ), s) : GSem nD τ sig) = ((d : Thread nD τ), t)) : c = d :=
  congrArg (fun g : GSem nD τ sig => g.1.1) h

def barEmb : Dev nD ↪ GSem nD τ sig := ⟨fun c => barCell c, fun _ _ h => dev_of_cell h⟩
def ownEmb : Dev nD × Fin 3 ↪ GSem nD τ sig :=
  ⟨fun x => ((x.1 : Thread nD τ), osem x.2), fun _ _ h => Prod.ext (dev_of_cell h) (osem_inj (congrArg Prod.snd h))⟩

/-- The entry counters, which are there from the start, and the kernel's own counters, which come with it. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : Fin 3) : ((c : Thread nD τ), osem k) ∈ (barCells ∪ ownCells : Finset (GSem nD τ sig)) :=
  Finset.mem_union_right _ (Finset.mem_map_of_mem ownEmb (Finset.mem_univ (c, k)))

/-- The counters with a duty, and who owes what on device `c`. -/
abbrev dsem : Fin 4 → SemLoc sig := fun | 0 => .reg barS | 1 => .dma recvS | 2 => .dma copyS | 3 => .dma sendS
theorem dsem_inj : Function.Injective dsem := by decide
abbrev duty (c : Dev nD) : Fin 4 → Finset (Fin 1024) := fun | 0 => {0} | 1 => own T (peer c) | 2 => own T c | 3 => own T c

def dutyEmb : Dev nD × Fin 4 × Fin 1024 ↪ GSem nD τ sig × ℕ × Fin 1024 :=
  ⟨fun x => (((x.1 : Thread nD τ), dsem x.2.1), 0, x.2.2), fun _ _ h =>
    Prod.ext (dev_of_cell (congrArg Prod.fst h)) (Prod.ext (dsem_inj (congrArg (fun y => y.1.2) h)) (congrArg (fun y => y.2.2) h))⟩
/-- Every duty of the kernel. -/
def duties : Finset (GSem nD τ sig × ℕ × Fin 1024) :=
  (Finset.univ.filter fun x : Dev nD × Fin 4 × Fin 1024 => x.2.2 ∈ duty T x.1 x.2.1).map dutyEmb

theorem sep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) _
theorem sep_fin3 (Φ : Fin 3 → sProp 𝕄) : bigSep Finset.univ Φ = iprop(Φ 0 ∗ Φ 1 ∗ Φ 2) :=
  bigSep_univ_eq_bigSepL [(0 : Fin 3), 1, 2] (by decide) (by decide) _

theorem devs_together {Φ Ψ : Dev nD → sProp 𝕄} : iprop(bigSep Finset.univ Φ ∗ bigSep Finset.univ Ψ) ⊢ bigSep Finset.univ fun c => iprop(Φ c ∗ Ψ c) :=
  Entails.of_eq (bigSep_sep' ..).symm
theorem devs_apart {Φ Ψ : Dev nD → sProp 𝕄} : (bigSep Finset.univ fun c => iprop(Φ c ∗ Ψ c)) ⊢ iprop(bigSep Finset.univ Φ ∗ bigSep Finset.univ Ψ) :=
  Entails.of_eq (bigSep_sep' ..)

/-- A set of tokens picked out of all of them. -/
theorem sep_mem (S : Finset (Fin 1024)) (Φ : Fin 1024 → sProp 𝕄) :
    (bigSep Finset.univ fun t => if t ∈ S then Φ t else BIBase.emp) = bigSep S Φ :=
  (BI.bigSep_filter Finset.univ (· ∈ S) Φ).symm.trans (congrArg (bigSep · Φ) (by ext t; simp))

/-- All duties' tokens, device by device, where they are received. -/
theorem duties_eq : bigSep (duties T) (fun x => (dutyTok EB x.1 x.2.1 x.2.2 : sProp 𝕄))
    = bigSep Finset.univ fun c : Dev nD => iprop(dutyTok EB (barCell c) 0 0
      ∗ (bigSep (own T (peer c)) fun t => dutyTok EB (recvCell c) 0 t) ∗ (bigSep (own T c) fun t => dutyTok EB (copyCell c) 0 t)
      ∗ bigSep (own T c) fun t => dutyTok EB (sendCell c) 0 t) := by
  unfold duties
  rw [bigSep_map, BI.bigSep_filter, bigSep_univ_prod]
  refine bigSep_congr fun c _ => ?_
  rw [bigSep_univ_prod, sep_fin4]
  refine congrArg₂ _ ?_ (congrArg₂ _ ?_ (congrArg₂ _ ?_ ?_))
  · exact (sep_mem (duty T c 0) fun t => dutyTok EB (barCell c) 0 t).trans (bigSep_singleton ..)
  · exact sep_mem (duty T c 1) fun t => dutyTok EB (recvCell c) 0 t
  · exact sep_mem (duty T c 2) fun t => dutyTok EB (copyCell c) 0 t
  · exact sep_mem (duty T c 3) fun t => dutyTok EB (sendCell c) 0 t

/-- Partners, as a rearrangement of the devices. -/
def swap : Dev nD ≃ Dev nD := ⟨peer, peer, peer_peer, peer_peer⟩

/-- The entry and arrival tokens go to the partner, who pays those duties. -/
theorem duties_dealt :
    bigSep (duties T) (fun x => (dutyTok EB x.1 x.2.1 x.2.2 : sProp 𝕄)) = bigSep Finset.univ fun c : Dev nD => toks T c := by
  rw [duties_eq]
  unfold toks
  rw [bigSep_sep', bigSep_sep', bigSep_sep', bigSep_sep', bigSep_sep', bigSep_sep',
    bigSep_univ_equiv swap (fun c : Dev nD => (dutyTok EB (barCell c) 0 0 : sProp 𝕄)),
    bigSep_univ_equiv swap (fun c : Dev nD => (bigSep (own T (peer c)) fun t => dutyTok EB (recvCell c) 0 t : sProp 𝕄))]
  refine congrArg₂ _ rfl (congrArg₂ _ (bigSep_congr fun c _ => ?_) rfl)
  show (bigSep (own T (peer (peer c))) fun t => (dutyTok EB (recvCell (peer c)) 0 t : sProp 𝕄)) = _
  rw [peer_peer]

/-! ## The credits of the kernel's waits -/

theorem recv_ne_bar : (SemLoc.dma recvS : SemLoc sig) ≠ .reg barS := fun h => by cases h

theorem owed_at_bar (d c : Dev nD) : kDue T d (barCell c) () = if d = peer c then 1 else 0 := by
  unfold kDue sendDue
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun h' => h (by rw [← peer_peer d]; exact congrArg peer (dev_of_cell h'.1).symm)), if_neg h]

theorem owed_at_recv (d c : Dev nD) : kDue T d (recvCell c) () = if d = peer c then N * (own T (peer c)).card else 0 := by
  unfold kDue sendDue
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun h' => h (by rw [← peer_peer d]; exact congrArg peer (dev_of_cell h'.1).symm)), if_neg h]

theorem credit_bar (c : Dev nD) :
    tallyOn (barCell c) (launchCredit (Pipeline.owing fun d => kDue T d) 0 (barCell c)) = (tallyAt (barCell c) () 1 : CellTallies nD τ sig Unit) := by
  unfold tallyAt
  refine congrArg _ (Finsupp.ext fun u => ?_)
  cases u
  rw [Pipeline.launchCredit_owing, Finsupp.single_eq_same, Finset.sum_congr rfl fun d _ => owed_at_bar T d c, Finset.sum_ite_eq' Finset.univ (peer c) fun _ => 1,
    if_pos (Finset.mem_univ _)]

theorem credit_recv (c : Dev nD) :
    tallyOn (recvCell c) (launchCredit (Pipeline.owing fun d => kDue T d) 0 (recvCell c))
      = (tallyAt (recvCell c) () (N * (own T (peer c)).card) : CellTallies nD τ sig Unit) := by
  unfold tallyAt
  refine congrArg _ (Finsupp.ext fun u => ?_)
  cases u
  rw [Pipeline.launchCredit_owing, Finsupp.single_eq_same, Finset.sum_congr rfl fun d _ => owed_at_recv T d c,
    Finset.sum_ite_eq' Finset.univ (peer c) fun _ => N * (own T (peer c)).card, if_pos (Finset.mem_univ _)]

theorem creds_intro (c : Dev nD) : (Pipeline.launchCred (fun d => kDue T d) c : sProp 𝕄) ⊢ creds T c := by
  unfold Pipeline.launchCred creds
  rw [bigSep_univ_at _ (SemLoc.reg barS), credit_bar]
  refine sep_mono_right ?_
  rw [← credit_recv]
  exact bigSep_elim (Finset.mem_erase.mpr ⟨recv_ne_bar, Finset.mem_univ _⟩)

/-! ## The launch -/

/-- What a device owes at launch: its part of the exchange, then its part of the kernel. -/
def O₀ (c : Dev nD) : CellTallies nD τ sig Unit := kDue T c + (ar0 (F := F)).due c () ()

/-- The ghost state a launch makes: the staging windows', the exchange's, and the kernel's. -/
def u₀ : UU :=
  (initOf (Pipeline.cells (Pipeline.pin (pcfgs (F := F)) adm) cellOf_inj) (Pipeline.launchToks (Pipeline.pin (pcfgs (F := F)) adm) cellOf_inj),
    (initOf (ar0 (F := F)).cells (hostDat m).launchToks, launchOf barCells ownCells (duties T)))

/-- The last two, whole. -/
abbrev whole : sProp 𝕄 :=
  iprop(BI.own (EA (initOf (ar0 (F := F)).cells (hostDat m).launchToks)) ∗ BI.own (EB (launchOf barCells ownCells (duties T))))
/-- They wait on the first device until they are dealt out. -/
def parked (c : Dev nD) : sProp 𝕄 := if c = 0 then whole T m else iprop(emp)
theorem parked_eq : bigSep Finset.univ (parked T m) = whole T m := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem ghost_made : (ownU (u₀ T m) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (parked T m)) := by
  rw [parked_eq]
  unfold u₀ whole
  iintro Hu
  ihave H := (ownU_pair _ _) $$ Hu
  icases H with ⟨HP, HX⟩
  ihave H := (own_pair_emb embR (initOf (ar0 (F := F)).cells (hostDat m).launchToks) (launchOf barCells ownCells (duties T))) $$ HX
  imodintro
  isplitl [HP]; · iexact HP
  iexact H

/-- The facts all devices may consult. -/
def records (κ : GSem nD τ sig → ℕ) : sProp 𝕄 :=
  iprop((bigSep (barCells ∪ ownCells) fun g => cellInv EB (rd T) (κ g) g) ∗ bigSep barCells fun g => reached EB g 0)
instance records_persistent (κ : GSem nD τ sig → ℕ) : BI.Persistent (records T κ) := by unfold records; infer_instance

theorem inv_of (κ : GSem nD τ sig → ℕ) {g : GSem nD τ sig} (hg : g ∈ (barCells ∪ ownCells : Finset (GSem nD τ sig))) :
    (bigSep (barCells ∪ ownCells) fun g => (cellInv EB (rd T) (κ g) g : sProp 𝕄)) ⊢ cellInv EB (rd T) (κ g) g := bigSep_elim hg
theorem reached_of (c : Dev nD) : (bigSep barCells fun g => (reached EB g 0 : sProp 𝕄)) ⊢ reached EB (barCell c) 0 :=
  bigSep_elim (Finset.mem_map_of_mem barEmb (Finset.mem_univ c))

/-- What a device alone holds of the kernel's counters. -/
def linear (c : Dev nD) : sProp 𝕄 :=
  iprop(atPos EB (barCell c) 0 ∅ 0 ∗ (openTok EB (copyCell c) ∗ openTok EB (sendCell c) ∗ openTok EB (recvCell c)) ∗ toks T c)

theorem kept_intro (κ : GSem nD τ sig → ℕ) (c : Dev nD) : iprop(records T κ ∗ linear T c ∗ creds T c) ⊢ Kept T c := by
  unfold records linear Kept
  iintro ⟨⟨#HI, #HR⟩, ⟨Ha, Ho, Ht⟩, Hc⟩
  isplitr
  · iexists κ
    isplitr; · iapply (inv_of T κ (bar_mem c)); iexact HI
    isplitr; · iapply (inv_of T κ (bar_mem (peer c))); iexact HI
    isplitr; · iapply (inv_of T κ (own_mem c 0)); iexact HI
    isplitr; · iapply (inv_of T κ (own_mem c 1)); iexact HI
    isplitr; · iapply (inv_of T κ (own_mem c 2)); iexact HI
    isplitr; · iapply (inv_of T κ (own_mem (peer c) 2)); iexact HI
    iapply (reached_of (F := F) (peer c)); iexact HR
  isplitl [Ha Ho]
  · isplitl [Ha] <;> iassumption
  isplitl [Ht] <;> iassumption

/-- What a device starts its program with. -/
abbrev T₀ (c : Dev nD) : sProp 𝕄 := (seg0 T m).pre c

/-- The part of it that is neither of the two protocols'. -/
def plain (c : Dev nD) : sProp 𝕄 :=
  iprop(StableHlo.held (c : Thread nD τ) (Pipeline.ucRefs τ sig) (V₀ m c) ∗ owes (c : Thread nD τ) (O₀ T c) ∅ ∗ ∃ r, prngReg c r)

theorem start_intro (κ : GSem nD τ sig → ℕ) (c : Dev nD) :
    iprop(records T κ ∗ (plain T m c ∗ creds T c ∗ linear T c ∗ (hostDat m).rides EA c () ())) ⊢ T₀ T m c := by
  show _ ⊢ iprop(StableHlo.held (c : Thread nD τ) (ar0 (F := F)).siteRefs (V₀ m c) ∗ (hostDat m).rides EA c () ()
      ∗ (∃ W, owes (c : Thread nD τ) (kDue T c + (ar0 (F := F)).due c () ()) W) ∗ restA T m c)
  unfold plain restA hostInvs
  rw [StableHlo.held_sub_split (c : Thread nD τ) (site_sub (F := F))]
  unfold AllReduce.Dat.rides
  iintro ⟨#HR, ⟨⟨Hh, Hh'⟩, HO, Hp⟩, Hc, Hl, ⟨%κ', #Hi⟩, Hx⟩
  isplitl [Hh]; · iexact Hh
  isplitl [Hx]
  · isplitr; · iexists κ'; iexact Hi
    iexact Hx
  isplitl [HO]; · iexists ∅; iexact HO
  isplitl [Hh']; · iexact Hh'
  isplitl [Hp]; · iexact Hp
  isplitr []
  · iapply (kept_intro T κ c)
    isplitr; · iexact HR
    isplitl [Hl] <;> iassumption
  iexists κ'; iexact Hi

theorem sems_eq (c : Dev nD) : (unscopedSems0 c : sProp 𝕄)
    = iprop(semVal ((ar0 (F := F)).barrierCell c) 0 ∗ semVal ((ar0 (F := F)).recvCell c) 0 ∗ semVal ((ar0 (F := F)).sendCell c) 0 ∗ semVal (barCell c) 0) :=
  bigSep_eq_bigSepL_of_eq [SemLoc.reg ar0_barrier, SemLoc.dma ar0_recv, SemLoc.dma ar0_send, SemLoc.reg barS] (by decide) (by decide) _

/-- The host's share and the kernel's share of a device's counters and credits. -/
abbrev hostLaunch (c : Dev nD) : sProp 𝕄 :=
  iprop((semVal ((ar0 (F := F)).barrierCell c) 0 ∗ semVal ((ar0 (F := F)).recvCell c) 0 ∗ semVal ((ar0 (F := F)).sendCell c) 0)
    ∗ Pipeline.launchCred (fun d => (ar0 (F := F)).due d () ()) c)

theorem core_split (c : Dev nD) :
    iprop(unscopedBufs c (fun b => m ((c : Thread nD τ).loc b)) ∗ unscopedSems0 c
        ∗ owes (c : Thread nD τ) (O₀ T c) ∅ ∗ Pipeline.launchCred (O₀ T) c ∗ prngReg c (ρ c) ∗ parked T m c)
      ⊢ (iprop((plain T m c ∗ creds T c) ∗ (semVal (barCell c) 0 ∗ hostLaunch c ∗ parked T m c)) : sProp 𝕄) := by
  rw [show unscopedBufs c (fun b => m ((c : Thread nD τ).loc b)) = StableHlo.held (c : Thread nD τ) (Pipeline.ucRefs τ sig) (V₀ m c) from
      Pipeline.unscopedBufs_held c (V₀ m c), sems_eq,
    show (Pipeline.launchCred (O₀ T) c : sProp 𝕄) = _ from Pipeline.launchCred_add (fun d => kDue T d) (fun d => (ar0 (F := F)).due d () ()) c]
  unfold plain hostLaunch
  iintro ⟨Hh, ⟨Hs1, Hs2, Hs3, Hs4⟩, HO, ⟨Hk, Ha⟩, Hp, HG⟩
  isplitl [Hh HO Hp Hk]
  · isplitl [Hh HO Hp]
    · isplitl [Hh]; · iexact Hh
      isplitl [HO]; · iexact HO
      iexists (ρ c); iexact Hp
    iapply (creds_intro T c); iexact Hk
  isplitl [Hs4]; · iexact Hs4
  isplitr [HG]
  · isplitr [Ha]
    · isplitl [Hs1]; · iexact Hs1
      isplitl [Hs2] <;> iassumption
    iexact Ha
  iexact HG

/-- Out of what the launch gives every device, each gets what it starts its program with. -/
theorem init :
    iprop((bigSep Finset.univ fun c : Dev nD => iprop(unscopedBufs c (fun b => m ((c : Thread nD τ).loc b)) ∗ unscopedSems0 c
          ∗ owes (c : Thread nD τ) (O₀ T c) ∅ ∗ Pipeline.launchCred (O₀ T) c ∗ prngReg c (ρ c) ∗ parked T m c)) ∗ levAts L lv)
      ⊢ (|={Set.univ}=> bigSep Finset.univ (T₀ T m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos EB g 0 ∅ 0 : sProp 𝕄)) ⊢ bigSep Finset.univ (fun c : Dev nD => (atPos EB (barCell c) 0 ∅ 0 : sProp 𝕄)) :=
    Entails.of_eq (bigSep_map (s := Finset.univ) barEmb (Φ := fun g : GSem nD τ sig => (atPos EB g 0 ∅ 0 : sProp 𝕄)))
  have hop : bigSep ownCells (fun g => (openTok EB g : sProp 𝕄))
      ⊢ bigSep Finset.univ (fun c : Dev nD => iprop(openTok EB (copyCell c) ∗ openTok EB (sendCell c) ∗ openTok EB (recvCell c))) :=
    Entails.of_eq (by
      rw [bigSep_map, bigSep_univ_prod]
      exact bigSep_congr fun c _ => sep_fin3 fun k : Fin 3 => (openTok EB ((c : Thread nD τ), osem k) : sProp 𝕄))
  iintro ⟨H, -⟩
  ihave H' := (show (bigSep Finset.univ fun c : Dev nD => iprop(unscopedBufs c (fun b => m ((c : Thread nD τ).loc b)) ∗ unscopedSems0 c
          ∗ owes (c : Thread nD τ) (O₀ T c) ∅ ∗ Pipeline.launchCred (O₀ T) c ∗ prngReg c (ρ c) ∗ parked T m c))
      ⊢ (bigSep Finset.univ fun c : Dev nD => iprop((plain T m c ∗ creds T c) ∗ (semVal (barCell c) 0 ∗ hostLaunch c ∗ parked T m c)) : sProp 𝕄) from
    bigSep_mono fun c _ => core_split T m ρ c) $$ H
  ihave H2 := devs_apart $$ H'; icases H2 with ⟨HB, H3⟩
  ihave H4 := devs_apart $$ H3; icases H4 with ⟨Hv, H5⟩
  ihave H6 := devs_apart $$ H5; icases H6 with ⟨Hh, HG⟩
  ihave Hu := (Entails.of_eq (parked_eq T m)) $$ HG
  icases Hu with ⟨HA, HK⟩
  imod ((hostDat m).fund_rides EA () () (Es := Set.univ)) $$ [Hh HA] with Hr
  · isplitl [Hh]; · iexact Hh
    iexact HA
  imod (Rounds.fund_launch EB (rd T) cells_disjoint (fun g _ h => h) (duties T)) $$ [Hv HK] with ⟨%κ, -, #Hinv, #Hre, Hat, Hopen, Htok⟩
  · isplitl [Hv]
    · iapply hv $$ Hv
    · iexact HK
  imodintro
  iapply (bigSep_with_persistent (R := records T κ) (Φ := fun c => iprop(plain T m c ∗ creds T c ∗ linear T c ∗ (hostDat m).rides EA c () ())) fun c _ => start_intro T m κ c)
  isplitr
  · unfold records
    isplitr; · iexact Hinv
    iexact Hre
  ihave HB2 := devs_apart $$ HB; icases HB2 with ⟨Hpl, Hcr⟩
  iapply devs_together; isplitl [Hpl]; · iexact Hpl
  iapply devs_together; isplitl [Hcr]; · iexact Hcr
  iapply devs_together
  isplitr [Hr]
  · unfold linear
    iapply devs_together; isplitl [Hat]; · iapply hat $$ Hat
    iapply devs_together; isplitl [Hopen]; · iapply hop $$ Hopen
    iapply (Entails.of_eq (duties_dealt T)) $$ Htok
  · iexact Hr

end Cert.KernelIdeal.Lookup

end

end
-- ==== Proof.Run.lean ====
module

public import proofs.«01_k».proof.Proof.Launch

@[expose] public section

set_option maxRecDepth 16384

/-! # Every run of the program -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (T : Tables F)

variable (m : (ℓ : Loc nD τ sig) → Buf (Elt F) ℓ) (ρ : Dev nD → PrngReg)

/-- What the run leaves on device `c`: its arguments as they were, the result, and the four lasting counters at zero. -/
def Left (c : Dev nD) (s : MemSt nD τ sig (Elt F)) : Prop :=
  (s.mem ((c : Thread nD τ).loc main_arg0) = V₂ T m c main_arg0 ∧ s.mem ((c : Thread nD τ).loc main_arg1) = V₂ T m c main_arg1
      ∧ s.mem ((c : Thread nD τ).loc main_v2) = V₂ T m c main_v2)
    ∧ (s.sem ((ar0 (F := F)).barrierCell c) = 0 ∧ s.sem ((ar0 (F := F)).recvCell c) = 0 ∧ s.sem ((ar0 (F := F)).sendCell c) = 0) ∧ s.sem (barCell c) = 0

/-- The three buffers that are read at the end. -/
abbrev Fin3 : Finset (DevRef τ sig) := {Proc.devRef .tc main_arg0, Proc.devRef .tc main_arg1, Proc.devRef .tc main_v2}
theorem Fin3_sub : Fin3 ⊆ Pipeline.ucRefs τ sig := by decide

theorem held_three (c : Dev nD) (W : Valuation τ sig (Elt F)) : (StableHlo.held (c : Thread nD τ) Fin3 W : sProp 𝕄)
    = iprop(((c : Thread nD τ).loc main_arg0 ↦{fullShare} W main_arg0) ∗ ((c : Thread nD τ).loc main_arg1 ↦{fullShare} W main_arg1)
      ∗ ((c : Thread nD τ).loc main_v2 ↦{fullShare} W main_v2)) := by
  unfold StableHlo.held Fin3
  rw [bigSep_insert (by decide), bigSep_insert (by decide), bigSep_singleton]
  rfl

theorem read_out (c : Dev nD) (s' : Phys nD τ sig (Elt F)) :
    iprop(Tₙ T m c ∗ SI s') ⊢ (|={Set.univ}=> iprop(⌜Left T m c s'.mem⌝ ∗ SI s') : sProp 𝕄) := by
  unfold Tₙ restE hostInvs
  rw [StableHlo.held_sub_split (c : Thread nD τ) Fin3_sub, held_three]
  iintro ⟨⟨⟨⟨H0, H1, H2⟩, -⟩, HE, Hb⟩, HSI⟩
  icombine HSI H0 gives %h0
  icombine HSI H1 gives %h1
  icombine HSI H2 gives %h2
  icombine HSI Hb gives %hb
  imod ((hostDat m).ghostAfter_read EA c (k := 0) le_rfl s') $$ [HE HSI] with ⟨%hs, HSI⟩
  · isplitl [HE]; · iexact HE
    iexact HSI
  imodintro
  isplitr
  · ipureintro
    exact ⟨⟨Buf.eq_of_forall_mem_univ h0, Buf.eq_of_forall_mem_univ h1, Buf.eq_of_forall_mem_univ h2⟩, hs, by simpa using hb⟩
  iexact HSI

theorem lasting : ∀ sm : SemLoc sig, sm.isScoped .tc = false → sm = .reg ar0_barrier ∨ sm = .dma ar0_recv ∨ sm = .dma ar0_send ∨ sm = .reg barS := by decide

theorem V₁_arg0 (c : Dev nD) : V₁ m c main_arg0 = m ((c : Thread nD τ).loc main_arg0) := (ar0 (F := F)).after₀_operand (V₀ m) c
theorem arg1_off : (Proc.devRef .tc main_arg1 : DevRef τ sig) ∉ (ar0 (F := F)).siteRefs := fun h => by
  rcases (ar0 (F := F)).mem_siteRefs.mp h with h | h | ⟨j, h⟩
  · exact absurd h (show ¬(Proc.devRef .tc main_arg1 : DevRef τ sig) = Proc.devRef .tc main_v1 by decide)
  · exact absurd h (show ¬(Proc.devRef .tc main_arg1 : DevRef τ sig) = Proc.devRef .tc main_arg0 by decide)
  · exact absurd h ((show ∀ j : Fin 2, ¬(Proc.devRef .tc main_arg1 : DevRef τ sig) = Proc.devRef .tc (ar0_stage j) by decide) j)
theorem V₁_arg1 (c : Dev nD) : V₁ m c main_arg1 = m ((c : Thread nD τ).loc main_arg1) := (ar0 (F := F)).after₀_off_siteRefs (V₀ m) c (arg1_off (F := F))

set_option backward.isDefEq.respectTransparency.types false in
/-- From any memory whose exchanged words are rows of the table, every run of the program ends, with the arguments as they were, the result on
    every device the rows its words name, and every counter at zero. -/
theorem run_main (hV : Entry T (V₁ m)) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outVal T c) ∧ r.2.sem = fun _ => 0) :=
  Pipeline.θ_run_regions_kit_sems (pcfgs (F := F)) adm (pdats T (V₁ m)) () cellOf_inj EP defs₀ 𝒱₀ L lv m ρ main (segs T m hV)
    (fun c Q => by rw [main_eq T m hV c])
    (by simp only [segs, Pipeline.Seg.pipes_host, Pipeline.Seg.pipes_region, Pipeline.Seg.pipes_nil]; decide)
    (O₀ := O₀ T) (hL := L_of_ne) (G := parked T m) (u₀ := u₀ T m) (hu₀ := ghost_made T m)
    (T₀ := T₀ T m) (Tₙ := Tₙ T m)
    (hch := ⟨fun c => .rfl, fun c => seg0_reg0 T m hV c, fun c => reg0_end T m hV c⟩)
    (hinit := init T m ρ) (QY := Left T m) (hfin := read_out T m)
    (hQ := fun s h hs => ⟨fun c => by
        obtain ⟨⟨h0, h1, h2⟩, -⟩ := h c
        exact ⟨h0.trans ((V₂_arg0 T m c).trans (V₁_arg0 m c)), h1.trans ((V₂_arg1 T m c).trans (V₁_arg1 m c)), h2.trans (V₂_out T m c)⟩,
      sem_eq_zero hs fun c sm hsm => by
        obtain ⟨-, ⟨hb, hr, hd⟩, hk⟩ := h c
        rcases lasting sm hsm with rfl | rfl | rfl | rfl
        exacts [hb, hr, hd, hk]⟩)

end Cert.KernelIdeal.Lookup

end

end
-- ==== Proof.Value.lean ====
module

public import proofs.«01_k».proof.Proof.Run
public import proofs.«01_k».proof.Proof.Gen.Pre_in_table_Kernel

@[expose] public section

set_option maxRecDepth 16384

/-! # The words at the kernel's entry, and the run from the claims' precondition -/

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The precondition, word by word -/

/-- Where the precondition's array is all ones every word is below 16384. -/
theorem lt_of_in_table (ids : IVec S1024 32) (E : FVec F S8192x1024 .f32)
    (h : Cert.Pre_in_table_Kernel.fn (F := F) ids E = fun _ => 1#1) (i : S1024.Idx) : (ids i).toNat < 16384 := by
  have hi : IntOp.andi (IntOp.cmpi .sge (ids i) 0#32) (IntOp.cmpi .slt (ids i) 16384#32) = 1#1 := congrFun h i
  have h1 : IntOp.cmpi .sge (ids i) 0#32 = if 0 ≤ (ids i).toInt then 1#1 else 0#1 := by
    simp only [IntOp.cmpi, BitVec.sle, BitVec.slt, BitVec.ofBool]
    by_cases h : 0 ≤ (ids i).toInt <;> simp [h]
  have h2 : IntOp.cmpi .slt (ids i) 16384#32 = if (ids i).toInt < 16384 then 1#1 else 0#1 := by
    have : (16384#32 : BitVec 32).toInt = 16384 := by decide
    simp only [IntOp.cmpi, BitVec.sle, BitVec.slt, BitVec.ofBool, this]
    by_cases h : (ids i).toInt < 16384 <;> simp [h]
  rw [h1, h2] at hi
  have ha : 0 ≤ (ids i).toInt := by
    by_contra hn; rw [if_neg hn] at hi; revert hi; split <;> decide
  have hb : (ids i).toInt < 16384 := by
    by_contra hn; rw [if_neg hn] at hi; revert hi; split <;> decide
  rw [BitVec.toInt_eq_toNat_cond] at ha hb
  split at ha <;> omega

/-! ## The words the kernel is entered with -/

/-- The greater of two words is one of them. -/
theorem maxsi_lt {x y : BitVec 32} {n : ℕ} (hx : x.toNat < n) (hy : y.toNat < n) : (IntOp.maxsi x y).toNat < n := by
  unfold IntOp.maxsi; split <;> assumption

theorem maxsi_self (x : BitVec 32) : IntOp.maxsi x x = x := by
  unfold IntOp.maxsi; exact ite_self _

/-- After the exchange device `c` holds, word by word, the greatest of its group's words. -/
theorem V₁_v1 (c : Dev nD) : V₁ m c main_v1 = fun i => IntOp.maxsi (m ((((ar0 (F := F)).peer c 0 : Dev nD) : Thread nD τ).loc main_arg0) i)
    (m ((((ar0 (F := F)).peer c 1 : Dev nD) : Thread nD τ).loc main_arg0) i) :=
  (ar0 (F := F)).after₀_result (V₀ m) c

/-- Partners are in one group. -/
theorem group_peer (c : Dev nD) (j : Fin 2) : (ar0 (F := F)).peer (peer c) j = (ar0 (F := F)).peer c j := by
  revert c j
  intro c j
  fin_cases c <;> fin_cases j <;> rfl

/-- What the devices hold at the kernel's entry, from any memory whose words are all below 16384. -/
def tables (hlt : ∀ (c : Dev nD) (i : S1024.Idx), (m ((c : Thread nD τ).loc main_arg0) i).toNat < 16384) : Tables F where
  w c := V₁ m c main_v1
  E c := m ((c : Thread nD τ).loc main_arg1)
  agree c := by rw [V₁_v1, V₁_v1, group_peer, group_peer]
  lt c i := by rw [V₁_v1]; exact maxsi_lt (hlt _ _) (hlt _ _)

theorem entry (hlt) : Entry (tables m hlt) (V₁ m) := ⟨fun _ => rfl, V₁_arg1 m⟩

/-- On copies that are all the same the exchange changes nothing. -/
theorem tables_w (hlt) {ids : S1024.Idx → BitVec 32} (h : ∀ c : Dev nD, m ((c : Thread nD τ).loc main_arg0) = ids) (c : Dev nD) :
    (tables m hlt).w c = ids := by
  show V₁ m c main_v1 = ids
  rw [V₁_v1]
  funext i
  rw [h, h, maxsi_self]

/-! ## The run from a memory whose words are in the table -/

/-- Every run ends, keeps the arguments and leaves every counter at zero. -/
theorem run_frame (hlt : ∀ (c : Dev nD) (i : S1024.Idx), (m ((c : Thread nD τ).loc main_arg0) i).toNat < 16384) :
    θ_run defs (onTc (τ := τ) (main (F := F))) ⟨m, fun _ => 0, ρ⟩ (fun r => (∀ c : Dev nD,
      r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r h => ⟨fun c => ⟨(h.1 c).1, (h.1 c).2.1⟩, h.2⟩) (run_main (tables m hlt) m ρ (entry m hlt))

end Cert.KernelIdeal.Lookup

end

end
-- ==== Proof.Reference.lean ====
module

public import proofs.«01_k».proof.Defs
public import proofs.«01_k».proof.Proof.Gen.ReferenceIdeal
public import proofs.«01_k».proof.Proof.Gen.Pre_in_table_ReferenceIdeal
public import Idealize.ShloMosaic.Lib.Claim
public import Idealize.ShloMosaic.Lib.Quiescent
public import Idealize.ShloMosaic.Lib.ValueIdxCore

@[expose] public section

/-! # The reference's runs, and its result read at an index -/

noncomputable section

namespace Cert.ReferenceIdeal.Lookup

open Idealize.ShloMosaic Idealize.ShloMosaic.TcCoe
open Cert.ReferenceIdeal.Gen
open Idealize.ShloMosaic.ValueIdx

/-- The reference runs, keeps its arguments and leaves every counter at zero. -/
theorem frame : Cert.quiescent_ReferenceIdeal := by
  intro m g _
  hlo_run
  · exact fun _ => ⟨trivial, trivial⟩
  · exact sem_eq_zero_of_no_sems (by decide) r.2

/-- The same under the precondition, which it does not need. -/
theorem frame_pre : Cert.quiescent_ReferenceIdeal_pre_in_table_ReferenceIdeal := by
  intro m g _
  hlo_run
  · exact fun _ => ⟨trivial, trivial⟩
  · exact sem_eq_zero_of_no_sems (by decide) r.2

/-! ## Rows gathered from a matrix, one row number per row of the result -/

/-- The row number's place for row `y 0` of the result. -/
abbrev rowAt (y : S1024x1024.Idx) : S1024x1.Idx := ix2 ⟨(y 0).val, idx2_lt0 y⟩ ⟨0, Nat.one_pos⟩

/-- Element `(t, j)` of the gathered rows: the matrix at the row named for `t`, read signed and held within the matrix, of column `j`. -/
theorem gather_rows {α : Type} (x : S16384x1024.Idx → α) (idx : IVec S1024x1 32) (y : S1024x1024.Idx) :
    Host.gather gather_S16384x1024_S1024x1_S1024x1024_1_0_n_n_0_1_11024 x idx y
      = x (ix2 ⟨min (idx (rowAt y)).toInt.toNat 16383, by omega⟩ ⟨(y 1).val, idx2_lt1 y⟩) := by
  generalize hd : gather_S16384x1024_S1024x1_S1024x1024_1_0_n_n_0_1_11024 = d
  unfold Host.gather
  congr 1
  funext a
  refine Fin.ext ?_
  show d.start y idx a + d.batchCoord y a + d.offCoord y a = _
  rw [GatherDims.batchCoord_eq_zero _ _ _ (by subst hd; exact List.not_mem_nil), Nat.add_zero]
  subst hd
  match a with
  | ⟨0, _⟩ =>
    rw [GatherDims.offCoord_eq_zero _ _ _ (fun h => ((GatherDims.mem_sKept _ _).mp h).1 (List.mem_singleton.mpr rfl)), Nat.add_zero]
    unfold GatherDims.start
    split
    · refine congrArg (fun i => min (idx i).toInt.toNat 16383) ?_
      funext b
      refine Fin.ext ?_
      match b with
      | ⟨0, _⟩ => rfl
      | ⟨1, _⟩ => rfl
    · rename_i h
      exact absurd (List.mem_singleton.mpr rfl) h
  | ⟨1, _⟩ =>
    unfold GatherDims.start GatherDims.offCoord
    split
    · rename_i h
      exact absurd (congrArg Fin.val (List.mem_singleton.mp h)) Nat.one_ne_zero
    · split
      · exact Nat.zero_add _
      · rename_i h
        exact absurd (show (1 : Fin 2) ∈ [(1 : Fin 2)] from List.mem_singleton.mpr rfl) h

/-- The row numbers the reference gathers at, as it computes them: a negative one has the table's length added. -/
def rowNumbers (ids : IVec S1024 32) : IVec S1024x1 32 :=
  broadcastInDim S1024x1 ![0] bcast_S1024_S1024x1_0
    (select (cmpi .slt ids (broadcastInDim S1024 ![] bcast_S_S1024 (constantI S_ 32 0#32)))
      (addi ids (broadcastInDim S1024 ![] bcast_S_S1024 (constantI S_ 32 16384#32))) ids)

/-- The place of row `y 0`'s word. -/
abbrev wordAt (y : S1024x1024.Idx) : S1024.Idx := ix1 ⟨(y 0).val, idx2_lt0 y⟩

/-- Words below 16384 are taken as they stand. -/
theorem rowNumbers_apply (ids : IVec S1024 32) (y : S1024x1024.Idx) (h : (ids (wordAt y)).toNat < 16384) :
    rowNumbers ids (rowAt y) = ids (wordAt y) := by
  have e : rowNumbers ids (rowAt y) = Scalar.select (IntOp.cmpi .slt (ids (wordAt y)) 0#32) (IntOp.addi (ids (wordAt y)) 16384#32) (ids (wordAt y)) := by
    unfold rowNumbers
    have : ∀ i : S1024.Idx, i = wordAt y → select (cmpi .slt ids (broadcastInDim S1024 ![] bcast_S_S1024 (constantI S_ 32 0#32)))
      (addi ids (broadcastInDim S1024 ![] bcast_S_S1024 (constantI S_ 32 16384#32))) ids i
        = Scalar.select (IntOp.cmpi .slt (ids (wordAt y)) 0#32) (IntOp.addi (ids (wordAt y)) 16384#32) (ids (wordAt y)) := by
      rintro i rfl; rfl
    refine this _ ?_
    funext a
    match a with
    | ⟨0, _⟩ => rfl
  rw [e]
  have hn : IntOp.cmpi .slt (ids (wordAt y)) 0#32 = 0#1 := by
    have : ¬ (ids (wordAt y)).toInt < 0 := by rw [BitVec.toInt_eq_toNat_cond]; split <;> omega
    simp only [IntOp.cmpi, BitVec.slt, BitVec.ofBool]
    simp [this]
  rw [hn]
  rfl

/-- The reference's result at `(t, j)`, its words below 16384: the table's element at row `ids t`, column `j`. -/
theorem result_apply {α : Type} (ids : IVec S1024 32) (x : S16384x1024.Idx → α) (y : S1024x1024.Idx) (h : (ids (wordAt y)).toNat < 16384) :
    Host.gather gather_S16384x1024_S1024x1_S1024x1024_1_0_n_n_0_1_11024 x (rowNumbers ids) y
      = x (ix2 ⟨(ids (wordAt y)).toNat, h⟩ ⟨(y 1).val, idx2_lt1 y⟩) := by
  rw [gather_rows]
  have e : min (rowNumbers ids (rowAt y)).toInt.toNat 16383 = (ids (wordAt y)).toNat := by
    rw [rowNumbers_apply ids y h]
    have : (ids (wordAt y)).toInt = ((ids (wordAt y)).toNat : Int) := by rw [BitVec.toInt_eq_toNat_cond]; split <;> omega
    rw [this, Int.toNat_natCast]
    omega
  exact congrArg (fun r => x (ix2 r ⟨(y 1).val, idx2_lt1 y⟩)) (Fin.ext e)

end Cert.ReferenceIdeal.Lookup

end

end
-- ==== Proof.Claims.lean ====
module

public import proofs.«01_k».proof.Proof.Value
public import proofs.«01_k».proof.Proof.Reference
public import proofs.«01_k».proof.Proof.Gen.Kernel

@[expose] public section

set_option maxRecDepth 16384

/-! # The claims

The program read at exact numbers runs and keeps its frame (`frame_ideal`); the program read at machine
numbers is the same text, so its runs are the same theorem's (`frame_kernel`); and the value theorem
(`algebraic`) sets the result of `run_main` beside the reference's gathered rows. -/

noncomputable section

namespace Cert.Proof

open Idealize.ShloMosaic Idealize.ShloMosaic.TcCoe
open Idealize.ShloMosaic.ValueIdx
open Cert.KernelIdeal.Lookup

/-! ## Frames -/

/-- The kernel at exact numbers, its words in the table: every run ends, keeps the arguments and leaves every counter at zero. -/
theorem frame_ideal : Cert.quiescent_KernelIdeal := fun m ρ hpre =>
  run_frame m ρ fun c => lt_of_in_table _ _ (hpre c)

/-- The two readings have one pipeline, -/
theorem cfg_eq : Cert.Kernel.cfg0 = Cert.KernelIdeal.cfg0 := by
  unfold Cert.Kernel.cfg0 Cert.KernelIdeal.cfg0
  congr 1

/-- also as the list the program names, -/
theorem pcfgs_eq : Cert.Kernel.pcfgs (F := Bits) = Cert.KernelIdeal.pcfgs := by
  funext p
  exact congrArg (fun C => Pipeline.Cfg.toPCfg (Val := Elt Bits) C) cfg_eq

/-- one kernel body, -/
theorem bodies_eq : Cert.Kernel.defs₀ (F := Bits) = Cert.KernelIdeal.defs₀ := by
  unfold Cert.Kernel.defs₀ Cert.KernelIdeal.defs₀
  congr 1
  funext l a
  match l, a with
  | 0, (t, s) => rfl

/-- Body tables made from equal pipelines and equal kernels are equal. -/
theorem defs_congr {P P' : Fin 1 → Pipeline.PCfg Cert.KernelIdeal.sig Cert.KernelIdeal.Λ₀ (Elt Bits)}
    {d d' : Defs Cert.KernelIdeal.nD Cert.KernelIdeal.τ Cert.KernelIdeal.sig (Elt Bits) Cert.KernelIdeal.Λ₀}
    (h : P = P') (hd : d = d') : HEq (Pipeline.defs P d) (Pipeline.defs P' d') := by subst h; subst hd; rfl

/-- One table of bodies, -/
theorem defs_eq : Cert.Kernel.defs (F := Bits) = Cert.KernelIdeal.defs := eq_of_heq (defs_congr pcfgs_eq bodies_eq)

/-- and one main. -/
theorem main_eq : Cert.Kernel.main (F := Bits) = Cert.KernelIdeal.main := rfl

/-- The kernel at machine numbers likewise. -/
theorem frame_kernel : Cert.quiescent_Kernel := fun m ρ hpre => by
  rw [defs_eq, main_eq]
  exact run_frame (F := Bits) m ρ fun c => lt_of_in_table _ _ (hpre c)

/-! ## The value -/

/-- Along the rows device `d` holds block `d / 8` of the table, -/
theorem block_row (d : Dev Cert.KernelIdeal.nD) : Layout.meshLin [2, 2, 4] d.val [0] = d.val / 8 := by
  revert d; decide

/-- so row `w mod 8192` on the device of `w`'s half is row `w` of the whole table. -/
theorem block_apply {α : Type} (x : (⟨2, ![16384, 1024]⟩ : Shape).Idx → α) (d : Dev Cert.KernelIdeal.nD) {w : BitVec 32} (hd : Mine d w)
    (h : w.toNat < 16384) (j : Fin 1024) :
    (Layout.blockN ⟨2, ![8192, 1024]⟩ ⟨2, ![16384, 1024]⟩ (Layout.meshBlock [2, 2, 4] ![[0], []] d) x) (Shape.pair (d := ![8192, 1024]) (rowOf w) j)
      = x (ix2 ⟨w.toNat, h⟩ j) := by
  rw [Layout.blockN_apply]
  congr 1
  funext a
  refine Fin.ext ?_
  rw [Layout.TilesN.idx_val]
  match a with
  | ⟨0, _⟩ =>
    show Layout.meshLin [2, 2, 4] d.val [0] * 8192 + w.toNat % 8192 = w.toNat
    rw [block_row]
    unfold Mine at hd
    omega
  | ⟨1, _⟩ =>
    show 0 * 1024 + j.val = j.val
    omega

/-- From devices holding their parts of the reference's arguments the kernel leaves on each the reference's result. -/
theorem outVal_eq (m : (ℓ : Loc Cert.KernelIdeal.nD Cert.KernelIdeal.τ Cert.KernelIdeal.sig) → Buf (Elt Ideal) ℓ) (hlt)
    (ids : Cert.ReferenceIdeal.S1024.Idx → BitVec 32) (x : Cert.ReferenceIdeal.S16384x1024.Idx → Elt Ideal .f32)
    (h0 : ∀ c : Dev Cert.KernelIdeal.nD, m ((c.tc : Thread Cert.KernelIdeal.nD Cert.KernelIdeal.τ).loc Cert.KernelIdeal.main_arg0) = ids)
    (h1 : ∀ c : Dev Cert.KernelIdeal.nD, m ((c.tc : Thread Cert.KernelIdeal.nD Cert.KernelIdeal.τ).loc Cert.KernelIdeal.main_arg1)
      = Layout.blockN ⟨2, ![8192, 1024]⟩ ⟨2, ![16384, 1024]⟩ (Layout.meshBlock [2, 2, 4] ![[0], []] c) x)
    (c : Dev Cert.KernelIdeal.nD) :
    outVal (tables m hlt) c = Host.gather Cert.ReferenceIdeal.gather_S16384x1024_S1024x1_S1024x1024_1_0_n_n_0_1_11024 x
      (Cert.ReferenceIdeal.Lookup.rowNumbers ids) := by
  funext i
  have hw : (tables m hlt).w c (ix (i 0)) = ids (Cert.ReferenceIdeal.Lookup.wordAt i) := by
    rw [tables_w m hlt h0 c]
    congr 1
    funext a
    match a with
    | ⟨0, _⟩ => rfl
  have hl : (ids (Cert.ReferenceIdeal.Lookup.wordAt i)).toNat < 16384 := by rw [← hw]; exact (tables m hlt).lt c _
  rw [Cert.ReferenceIdeal.Lookup.result_apply ids x i hl]
  unfold outVal
  rw [hw]
  generalize ids (Cert.ReferenceIdeal.Lookup.wordAt i) = w at hl ⊢
  have hd : Mine (if Mine c w then c else peer c) w := by
    by_cases hm : Mine c w
    · rw [if_pos hm]; exact hm
    · rw [if_neg hm]; exact (mine_peer c hl).2 hm
  generalize (if Mine c w then c else peer c) = d at hd ⊢
  show m ((d.tc : Thread Cert.KernelIdeal.nD Cert.KernelIdeal.τ).loc Cert.KernelIdeal.main_arg1) _ = _
  rw [h1 d]
  exact block_apply x d hd hl (i 1)

/-- Run from its parts of the reference's arguments the kernel ends, on every device, with the reference's result. -/
theorem algebraic : Cert.algebraic_KernelIdeal_ReferenceIdeal := by
  intro m g m' g' hpre hagree
  have hlt : ∀ (c : Dev Cert.KernelIdeal.nD) (i : Cert.KernelIdeal.S1024.Idx),
      (m ((c.tc : Thread Cert.KernelIdeal.nD Cert.KernelIdeal.τ).loc Cert.KernelIdeal.main_arg0) i).toNat < 16384 := fun c => lt_of_in_table _ _ (hpre c)
  have hv := outVal_eq m hlt _ _ (fun c => (hagree c).1) (fun c => (hagree c).2)
  refine ⟨_, (θ_run _ _ _).mono (fun r h c => ⟨((h.1 c).2.2).trans (hv c), (h.1 c).1, (h.1 c).2.1⟩) (run_main (tables m hlt) m g (entry m hlt)), ?_⟩
  hlo_run
  all_goals rfl

end Cert.Proof

end

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_in_table_Kernel
public import proofs.«01_k».proof.Proof.Gen.Pre_in_table_ReferenceIdeal

@[expose] public section

noncomputable section

namespace Cert.Proof

/-- Every claim, from the facts the programs state. -/
theorem claim : Cert.Claim :=
  ⟨Cert.Kernel.Gen.facts, Cert.KernelIdeal.Gen.facts, Cert.ReferenceIdeal.Gen.facts, Cert.Pre_in_table_Kernel.Gen.facts, Cert.Pre_in_table_ReferenceIdeal.Gen.facts,
    frame_kernel, frame_ideal, Cert.ReferenceIdeal.Lookup.frame, Cert.ReferenceIdeal.Lookup.frame_pre, trivial, algebraic⟩

end Cert.Proof

end

end
